-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S64x4 : Shape := ⟨2, ![64, 4]⟩
abbrev S4x10 : Shape := ⟨2, ![4, 10]⟩
abbrev S10 : Shape := ⟨1, ![10]⟩
abbrev S10x10 : Shape := ⟨2, ![10, 10]⟩
abbrev S10x4 : Shape := ⟨2, ![10, 4]⟩
abbrev S4 : Shape := ⟨1, ![4]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S64x4 .f32) (main_arg2 : FVec F S4x10 .f32) (main_arg3 : FVec F S10 .f32) (main_arg4 : FVec F S10x10 .f32) (main_arg5 : FVec F S10 .f32) (main_arg6 : FVec F S10x4 .f32) (main_arg7 : FVec F S4 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 64#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S64x4 : Shape := ⟨2, ![64, 4]⟩
abbrev S4x10 : Shape := ⟨2, ![4, 10]⟩
abbrev S10 : Shape := ⟨1, ![10]⟩
abbrev S10x10 : Shape := ⟨2, ![10, 10]⟩
abbrev S10x4 : Shape := ⟨2, ![10, 4]⟩
abbrev S4 : Shape := ⟨1, ![4]⟩
abbrev S1x10 : Shape := ⟨2, ![1, 10]⟩
abbrev S1x4 : Shape := ⟨2, ![1, 4]⟩
abbrev S64x10 : Shape := ⟨2, ![64, 10]⟩
abbrev S256 : Shape := ⟨1, ![256]⟩
abbrev S65536 : Shape := ⟨1, ![65536]⟩
abbrev S512 : Shape := ⟨1, ![512]⟩
abbrev S2048 : Shape := ⟨1, ![2048]⟩
abbrev S_ : Shape := ⟨0, ![]⟩
abbrev S16 : Shape := ⟨1, ![16]⟩
abbrev S16384x4 : Shape := ⟨2, ![16384, 4]⟩

abbrev nBuf : Table → Nat
  | .hbm => 15
  | .local .tc .vmem => 8
  | .local .scVector .vmem => 3
  | _ => 0

abbrev bufTy : (tb : Table) → Fin (nBuf tb) → BufTy
  | .hbm, ⟨0, _⟩ => ⟨S16384, .i32⟩
  | .hbm, ⟨1, _⟩ => ⟨S64x4, .f32⟩
  | .hbm, ⟨2, _⟩ => ⟨S4x10, .f32⟩
  | .hbm, ⟨3, _⟩ => ⟨S10, .f32⟩
  | .hbm, ⟨4, _⟩ => ⟨S10x10, .f32⟩
  | .hbm, ⟨5, _⟩ => ⟨S10, .f32⟩
  | .hbm, ⟨6, _⟩ => ⟨S10x4, .f32⟩
  | .hbm, ⟨7, _⟩ => ⟨S4, .f32⟩
  | .hbm, ⟨8, _⟩ => ⟨S1x10, .f32⟩
  | .hbm, ⟨9, _⟩ => ⟨S1x10, .f32⟩
  | .hbm, ⟨10, _⟩ => ⟨S1x4, .f32⟩
  | .hbm, ⟨11, _⟩ => ⟨S64x4, .f32⟩
  | .hbm, ⟨12, _⟩ => ⟨S256, .f32⟩
  | .hbm, ⟨13, _⟩ => ⟨S65536, .f32⟩
  | .hbm, ⟨14, _⟩ => ⟨S16384x4, .f32⟩
  | .local .tc .vmem, ⟨0, _⟩ => ⟨S64x4, .f32⟩
  | .local .tc .vmem, ⟨1, _⟩ => ⟨S4x10, .f32⟩
  | .local .tc .vmem, ⟨2, _⟩ => ⟨S1x10, .f32⟩
  | .local .tc .vmem, ⟨3, _⟩ => ⟨S10x10, .f32⟩
  | .local .tc .vmem, ⟨4, _⟩ => ⟨S1x10, .f32⟩
  | .local .tc .vmem, ⟨5, _⟩ => ⟨S10x4, .f32⟩
  | .local .tc .vmem, ⟨6, _⟩ => ⟨S1x4, .f32⟩
  | .local .tc .vmem, ⟨7, _⟩ => ⟨S64x4, .f32⟩
  | .local .scVector .vmem, ⟨0, _⟩ => ⟨S512, .i32⟩
  | .local .scVector .vmem, ⟨1, _⟩ => ⟨S256, .f32⟩
  | .local .scVector .vmem, ⟨2, _⟩ => ⟨S2048, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_arg0_scv : Ref sig .scVector := ⟨.hbm, 0, rfl⟩
abbrev main_v4_scv : Ref sig .scVector := ⟨.hbm, 12, rfl⟩
abbrev main_v5_scv : Ref sig .scVector := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S64x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k1_off2 (k1_t1 : Fin k1_t1_loop.trips) : Fin 1 → Nat :=
  let c0_i32_0 : BitVec 32 := 0#32
  let c1_i32 : BitVec 32 := 1#32
  let arg8 : BitVec 32 := Scf.iv c0_i32_0 c1_i32 k1_t1
  let c16_i32 : BitVec 32 := 16#32
  let v6 : BitVec 32 := Scalar.muli arg8 c16_i32
  let v7 : Index := Scalar.indexCast v6
  ![v7.toNat]

def k1_chk1 (v17 : IVec S16 32) : Prop :=
  (∀ a x, ((![v17] : Fin 1 → IVec S16 32) a x).toNat < S256.size a)
theorem k1_idx1_inb : ∀ (v17 : IVec S16 32) (k1_hw1 : k1_chk1 v17), ∀ a x, ((![v17] : Fin 1 → IVec S16 32) a x).toNat < S256.size a := fun v17 k1_hw1 => k1_hw1

def k1_chk2 (v20 : IVec S16 32) : Prop :=
  (∀ a x, ((![v20] : Fin 1 → IVec S16 32) a x).toNat < S2048.size a)
theorem k1_idx2_inb : ∀ (v20 : IVec S16 32) (k1_hw2 : k1_chk2 v20), ∀ a x, ((![v20] : Fin 1 → IVec S16 32) a x).toNat < S2048.size a := fun v20 k1_hw2 => k1_hw2

def k1_chk3 (v22 : IVec S16 32) : Prop :=
  (∀ a x, ((![v22] : Fin 1 → IVec S16 32) a x).toNat < S256.size a)
theorem k1_idx3_inb : ∀ (v22 : IVec S16 32) (k1_hw3 : k1_chk3 v22), ∀ a x, ((![v22] : Fin 1 → IVec S16 32) a x).toNat < S256.size a := fun v22 k1_hw3 => k1_hw3

def k1_chk4 (v25 : IVec S16 32) : Prop :=
  (∀ a x, ((![v25] : Fin 1 → IVec S16 32) a x).toNat < S2048.size a)
theorem k1_idx4_inb : ∀ (v25 : IVec S16 32) (k1_hw4 : k1_chk4 v25), ∀ a x, ((![v25] : Fin 1 → IVec S16 32) a x).toNat < S2048.size a := fun v25 k1_hw4 => k1_hw4

def k1_chk5 (v27 : IVec S16 32) : Prop :=
  (∀ a x, ((![v27] : Fin 1 → IVec S16 32) a x).toNat < S256.size a)
theorem k1_idx5_inb : ∀ (v27 : IVec S16 32) (k1_hw5 : k1_chk5 v27), ∀ a x, ((![v27] : Fin 1 → IVec S16 32) a x).toNat < S256.size a := fun v27 k1_hw5 => k1_hw5

def k1_chk6 (v30 : IVec S16 32) : Prop :=
  (∀ a x, ((![v30] : Fin 1 → IVec S16 32) a x).toNat < S2048.size a)
theorem k1_idx6_inb : ∀ (v30 : IVec S16 32) (k1_hw6 : k1_chk6 v30), ∀ a x, ((![v30] : Fin 1 → IVec S16 32) a x).toNat < S2048.size a := fun v30 k1_hw6 => k1_hw6

def k1_chk7 (v32 : IVec S16 32) : Prop :=
  (∀ a x, ((![v32] : Fin 1 → IVec S16 32) a x).toNat < S256.size a)
theorem k1_idx7_inb : ∀ (v32 : IVec S16 32) (k1_hw7 : k1_chk7 v32), ∀ a x, ((![v32] : Fin 1 → IVec S16 32) a x).toNat < S256.size a := fun v32 k1_hw7 => k1_hw7

def k1_chk8 (v35 : IVec S16 32) : Prop :=
  (∀ a x, ((![v35] : Fin 1 → IVec S16 32) a x).toNat < S2048.size a)
theorem k1_idx8_inb : ∀ (v35 : IVec S16 32) (k1_hw8 : k1_chk8 v35), ∀ a x, ((![v35] : Fin 1 → IVec S16 32) a x).toNat < S2048.size a := fun v35 k1_hw8 => k1_hw8
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c4_i32 : BitVec 32 := 4#32
  let v5 : BitVec 32 := Scalar.muli v2 c4_i32
  ![v5.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S64x4 : Shape := ⟨2, ![64, 4]⟩
abbrev S4x10 : Shape := ⟨2, ![4, 10]⟩
abbrev S10 : Shape := ⟨1, ![10]⟩
abbrev S10x10 : Shape := ⟨2, ![10, 10]⟩
abbrev S10x4 : Shape := ⟨2, ![10, 4]⟩
abbrev S4 : Shape := ⟨1, ![4]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x4 : Shape := ⟨2, ![16384, 4]⟩
abbrev S16384x10 : Shape := ⟨2, ![16384, 10]⟩
abbrev S1x10 : Shape := ⟨2, ![1, 10]⟩
abbrev S1x4 : Shape := ⟨2, ![1, 4]⟩

abbrev nBuf : Space → Nat
  | .hbm => 61
  | .vmem => 0
  | .smem => 0
  | _ => 0

abbrev bufTy : (tb : Table) → Fin (tcTables nBuf tb) → BufTy
  | .hbm, ⟨0, _⟩ => ⟨S16384, .i32⟩
  | .hbm, ⟨1, _⟩ => ⟨S64x4, .f32⟩
  | .hbm, ⟨2, _⟩ => ⟨S4x10, .f32⟩
  | .hbm, ⟨3, _⟩ => ⟨S10, .f32⟩
  | .hbm, ⟨4, _⟩ => ⟨S10x10, .f32⟩
  | .hbm, ⟨5, _⟩ => ⟨S10, .f32⟩
  | .hbm, ⟨6, _⟩ => ⟨S10x4, .f32⟩
  | .hbm, ⟨7, _⟩ => ⟨S4, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S1x1, .i32⟩
  | .hbm, ⟨21, _⟩ => ⟨S16384x1, .i32⟩
  | .hbm, ⟨22, _⟩ => ⟨S16384x1, .i1⟩
  | .hbm, ⟨23, _⟩ => ⟨S16384x1, .i1⟩
  | .hbm, ⟨24, _⟩ => ⟨S_, .i1⟩
  | .hbm, ⟨25, _⟩ => ⟨S16384, .i1⟩
  | .hbm, ⟨26, _⟩ => ⟨S16384x4, .f32⟩
  | .hbm, ⟨27, _⟩ => ⟨S16384x4, .i1⟩
  | .hbm, ⟨28, _⟩ => ⟨S_, .f32⟩
  | .hbm, ⟨29, _⟩ => ⟨S16384x4, .f32⟩
  | .hbm, ⟨30, _⟩ => ⟨S16384x4, .f32⟩
  | .hbm, ⟨31, _⟩ => ⟨S16384x10, .f32⟩
  | .hbm, ⟨32, _⟩ => ⟨S1x10, .f32⟩
  | .hbm, ⟨33, _⟩ => ⟨S16384x10, .f32⟩
  | .hbm, ⟨34, _⟩ => ⟨S16384x10, .f32⟩
  | .hbm, ⟨35, _⟩ => ⟨S_, .f32⟩
  | .hbm, ⟨36, _⟩ => ⟨S16384x10, .f32⟩
  | .hbm, ⟨37, _⟩ => ⟨S16384x10, .f32⟩
  | .hbm, ⟨38, _⟩ => ⟨S16384x10, .f32⟩
  | .hbm, ⟨39, _⟩ => ⟨S_, .f32⟩
  | .hbm, ⟨40, _⟩ => ⟨S16384x10, .f32⟩
  | .hbm, ⟨41, _⟩ => ⟨S16384x10, .f32⟩
  | .hbm, ⟨42, _⟩ => ⟨S16384x10, .f32⟩
  | .hbm, ⟨43, _⟩ => ⟨S16384x10, .f32⟩
  | .hbm, ⟨44, _⟩ => ⟨S16384x10, .f32⟩
  | .hbm, ⟨45, _⟩ => ⟨S1x10, .f32⟩
  | .hbm, ⟨46, _⟩ => ⟨S16384x10, .f32⟩
  | .hbm, ⟨47, _⟩ => ⟨S16384x10, .f32⟩
  | .hbm, ⟨48, _⟩ => ⟨S_, .f32⟩
  | .hbm, ⟨49, _⟩ => ⟨S16384x10, .f32⟩
  | .hbm, ⟨50, _⟩ => ⟨S16384x10, .f32⟩
  | .hbm, ⟨51, _⟩ => ⟨S16384x10, .f32⟩
  | .hbm, ⟨52, _⟩ => ⟨S_, .f32⟩
  | .hbm, ⟨53, _⟩ => ⟨S16384x10, .f32⟩
  | .hbm, ⟨54, _⟩ => ⟨S16384x10, .f32⟩
  | .hbm, ⟨55, _⟩ => ⟨S16384x10, .f32⟩
  | .hbm, ⟨56, _⟩ => ⟨S16384x10, .f32⟩
  | .hbm, ⟨57, _⟩ => ⟨S16384x4, .f32⟩
  | .hbm, ⟨58, _⟩ => ⟨S1x4, .f32⟩
  | .hbm, ⟨59, _⟩ => ⟨S16384x4, .f32⟩
  | .hbm, ⟨60, _⟩ => ⟨S16384x4, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_2 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩

abbrev nD : Nat := 1
abbrev τ : Topo := Topo.v7x

variable {F : FTy → Type} [FloatOps F]
-- ==== Proof.Scatter.lean ====
/-
  What an indexed store leaves in its memory: an element some lane names holds that lane's value, when the lanes'
  values agree with one function of the element, and every other element is untouched.
-/
module

public import Idealize.ShloMosaic.PureOps

@[expose] public section

noncomputable section

namespace Cert.Proof.Scatter

open Idealize.ShloMosaic

variable {F : FTy → Type} [FloatOps F] {s : Shape} {e : EltTy}

/-- Every index of a rank-one shape is one of its lanes. -/
theorem eq_ofLane {d : Fin 1 → Nat} (x : (⟨1, d⟩ : Shape).Idx) : x = Shape.ofLane (x 0) :=
  funext fun a => by
    obtain rfl := Fin.eq_zero a
    rfl

/-- An unmasked overwriting indexed store whose stored values are those of one function `G` at the elements the lanes
    name: the elements named hold `G`, the others what they held. -/
theorem storeIdx_apply {d : Fin 1 → Nat} (f G : Vec F s e) (idxs : Fin s.rank → IVec ⟨1, d⟩ 32) (v : Vec F ⟨1, d⟩ e)
    (h : ∀ a x, (idxs a x).toNat < s.size a) (hv : ∀ x, v x = G (idxAt idxs h x)) (j : s.Idx)
    [Decidable (∃ x, idxAt idxs h x = j)] :
    storeIdx f idxs v (fun _ => 1#1) false h j = if ∃ x, idxAt idxs h x = j then G j else f j := by
  classical
  have key : ∀ (l : List (Fin (d 0))) (g : Vec F s e),
      (l.foldl (fun g k =>
        let x := Shape.ofLane k
        if (fun _ => 1#1 : IVec ⟨1, d⟩ 1) x = 1 then
          let i := idxAt idxs h x
          let y := if false then Elt.idxAdd e (g i) (v x) else v x
          fun j => if (∀ a, (j a).val = (i a).val) then y else g j
        else g) g) j = if ∃ k ∈ l, idxAt idxs h (Shape.ofLane k) = j then G j else g j := by
    intro l
    induction l with
    | nil => intro g; simp
    | cons k l ih =>
      intro g
      rw [List.foldl_cons, ih]
      by_cases hl : ∃ k' ∈ l, idxAt idxs h (Shape.ofLane k') = j
      · rw [if_pos hl, if_pos]
        obtain ⟨k', hk', e'⟩ := hl
        exact ⟨k', List.mem_cons_of_mem _ hk', e'⟩
      · rw [if_neg hl]
        by_cases hk : idxAt idxs h (Shape.ofLane k) = j
        · have hp : ∃ k' ∈ k :: l, idxAt idxs h (Shape.ofLane k') = j := ⟨k, List.mem_cons_self, hk⟩
          rw [if_pos hp]
          have hj : ∀ a, (j a).val = (idxAt idxs h (Shape.ofLane k) a).val := fun a => by rw [hk]
          show (if ∀ a, (j a).val = (idxAt idxs h (Shape.ofLane k) a).val then (if false = true then Elt.idxAdd e (g (idxAt idxs h (Shape.ofLane k))) (v (Shape.ofLane k)) else v (Shape.ofLane k)) else g j) = G j
          rw [if_pos hj, if_neg Bool.false_ne_true, hv, hk]
        · have hn : ¬ ∃ k' ∈ k :: l, idxAt idxs h (Shape.ofLane k') = j := by
            rintro ⟨k', hm, e'⟩
            rcases List.mem_cons.mp hm with hk' | hm
            · exact hk (hk' ▸ e')
            · exact hl ⟨k', hm, e'⟩
          have hj : ¬ ∀ a, (j a).val = (idxAt idxs h (Shape.ofLane k) a).val := fun hh => hk (funext fun a => (Fin.ext (hh a)).symm)
          rw [if_neg hn]
          show (if ∀ a, (j a).val = (idxAt idxs h (Shape.ofLane k) a).val then (if false = true then Elt.idxAdd e (g (idxAt idxs h (Shape.ofLane k))) (v (Shape.ofLane k)) else v (Shape.ofLane k)) else g j) = g j
          rw [if_neg hj]
  unfold storeIdx
  rw [key]
  refine if_congr ⟨?_, ?_⟩ rfl rfl
  · rintro ⟨k, -, hk⟩; exact ⟨_, hk⟩
  · rintro ⟨x, hx⟩; exact ⟨x 0, List.mem_finRange _, by rw [← eq_ofLane]; exact hx⟩

end Cert.Proof.Scatter

end
-- ==== Proof.KernelIdeal.Words.lean ====
/-
  The index words of one trip of the tile's loop, as numbers, and what the trip's four indexed stores leave in the tile's
  output buffer. Trip `t` reads 16 indices; lane `k` of its `j`-th load reads the table at four times the index plus `j`,
  and its `j`-th store writes the output at `64 t + 4 k + j`.
-/
module

public import proofs.«01_k».proof.Proof.Gen.KernelIdeal.Skeleton
public import proofs.«01_k».proof.Proof.Scatter
public import Mathlib.Tactic.IntervalCases

@[expose] public section

noncomputable section

namespace Cert.Proof.KernelIdeal

open Cert.KernelIdeal Cert.KernelIdeal.Gen Idealize.ShloMosaic

variable {F : FTy → Type} [FloatOps F]

/-! ## The values -/

/-- The table's element at a number, taken modulo the table's length so that every number names one. -/
def cell (n : ℕ) : S256.Idx := fun a => ⟨n % 256, by rw [Fin.eq_zero a]; exact Nat.mod_lt _ (by decide)⟩

/-- The index of the tile's 512 whose row the `i`-th output element belongs to. -/
def row (i : S2048.Idx) : S512.Idx := fun a => ⟨(i 0).val / 4, by
  rw [Fin.eq_zero a]; have : (i 0).val < 2048 := (i 0).isLt; show _ < 512; omega⟩

/-- What a tile computes from its 512 indices and the table: element `4 r + j` is the table at four times index `r`, plus `j`. -/
def tileOut (x : S512.Idx → BitVec 32) (T : S256.Idx → F .f32) : S2048.Idx → F .f32 :=
  fun i => T (cell ((x (row i)).toNat * 4 + (i 0).val % 4))

/-! ## The words -/

/-- A lane's number times four plus a small constant, in a word: no wrap below 64. -/
theorem word_load (x : BitVec 32) (hx : x.toNat < 64) (c : BitVec 32) (hc : c.toNat < 4) :
    (IntOp.addi (IntOp.muli x 4#32) c).toNat = x.toNat * 4 + c.toNat := by
  unfold IntOp.addi IntOp.muli
  rw [BitVec.toNat_add, BitVec.toNat_mul]
  show (x.toNat * 4 % 2 ^ 32 + c.toNat) % 2 ^ 32 = _
  omega

/-- The store's word: sixteen lanes to a trip, four elements to a lane. -/
theorem word_store (t : ℕ) (ht : t < 32) (k : ℕ) (hk : k < 16) (c : BitVec 32) (hc : c.toNat < 4) :
    (IntOp.addi (IntOp.muli (IntOp.addi (Scalar.muli (Scf.iv 0#32 1#32 t) 16#32) (BitVec.ofNat 32 k)) 4#32) c).toNat = 64 * t + 4 * k + c.toNat := by
  unfold Scalar.muli IntOp.addi IntOp.muli Scf.iv
  simp only [BitVec.toNat_add, BitVec.toNat_mul, BitVec.toNat_ofNat]
  omega

theorem trips_eq : k1_t1_loop.trips = 32 := by decide

/-- The `j`-th load's words. -/
theorem pay3_toNat (v : Vec F S16 .i32) (x : S16.Idx) (h : (v x).toNat < 64) : (k1_pay3 v x).toNat = (v x).toNat * 4 + 0 :=
  word_load (v x) h 0#32 (by decide)
theorem pay5_toNat (v : Vec F S16 .i32) (x : S16.Idx) (h : (v x).toNat < 64) : (k1_pay5 v x).toNat = (v x).toNat * 4 + 1 :=
  word_load (v x) h 1#32 (by decide)
theorem pay7_toNat (v : Vec F S16 .i32) (x : S16.Idx) (h : (v x).toNat < 64) : (k1_pay7 v x).toNat = (v x).toNat * 4 + 2 :=
  word_load (v x) h 2#32 (by decide)
theorem pay9_toNat (v : Vec F S16 .i32) (x : S16.Idx) (h : (v x).toNat < 64) : (k1_pay9 v x).toNat = (v x).toNat * 4 + 3 :=
  word_load (v x) h 3#32 (by decide)

/-- The lane sequence's word at lane `x`. -/
theorem iota_lane (x : S16.Idx) : iota .scVector S16 32 [0] iota_S16_d0_w32_scVector x = BitVec.ofNat 32 (x 0).val := by
  unfold iota; simp

theorem store_lane (t : Fin k1_t1_loop.trips) (x : S16.Idx) (c : BitVec 32) (hc : c.toNat < 4) :
    (IntOp.addi (IntOp.muli (IntOp.addi (Scalar.muli (Scf.iv 0#32 1#32 t) 16#32) (iota .scVector S16 32 [0] iota_S16_d0_w32_scVector x)) 4#32) c).toNat
      = 64 * t.val + 4 * (x 0).val + c.toNat := by
  rw [iota_lane]
  exact word_store t.val (t.isLt.trans_eq trips_eq) (x 0).val (x 0).isLt c hc

/-- The `j`-th store's words. -/
theorem pay4_toNat (t : Fin k1_t1_loop.trips) (x : S16.Idx) : (k1_pay4 t x).toNat = 64 * t.val + 4 * (x 0).val + 0 :=
  store_lane t x 0#32 (by decide)
theorem pay6_toNat (t : Fin k1_t1_loop.trips) (x : S16.Idx) : (k1_pay6 t x).toNat = 64 * t.val + 4 * (x 0).val + 1 :=
  store_lane t x 1#32 (by decide)
theorem pay8_toNat (t : Fin k1_t1_loop.trips) (x : S16.Idx) : (k1_pay8 t x).toNat = 64 * t.val + 4 * (x 0).val + 2 :=
  store_lane t x 2#32 (by decide)
theorem pay10_toNat (t : Fin k1_t1_loop.trips) (x : S16.Idx) : (k1_pay10 t x).toNat = 64 * t.val + 4 * (x 0).val + 3 :=
  store_lane t x 3#32 (by decide)

/-- A load's words are inside the table. -/
theorem load_inb (w : IVec S16 32) (v : Vec F S16 .i32) (j : ℕ) (hj : j < 4) (hv : ∀ x, (v x).toNat < 64)
    (hw : ∀ x, (w x).toNat = (v x).toNat * 4 + j) : ∀ a x, ((![w] : Fin 1 → IVec S16 32) a x).toNat < S256.size a := by
  intro a x
  obtain rfl := Fin.eq_zero a
  have := hv x
  show (w x).toNat < 256
  rw [hw]; omega

/-- A store's words are inside the output buffer. -/
theorem store_inb (w : IVec S16 32) (t : Fin k1_t1_loop.trips) (j : ℕ) (hj : j < 4)
    (hw : ∀ x, (w x).toNat = 64 * t.val + 4 * (x 0).val + j) : ∀ a x, ((![w] : Fin 1 → IVec S16 32) a x).toNat < S2048.size a := by
  intro a x
  obtain rfl := Fin.eq_zero a
  have ht : t.val < 32 := t.isLt.trans_eq trips_eq
  have hx : (x 0).val < 16 := (x 0).isLt
  show (w x).toNat < 2048
  rw [hw]; omega

/-! ## One trip -/

/-- The output elements written after `n` of trip `t`'s four stores. -/
def done (t n : ℕ) (k : ℕ) : Prop := k < 64 * t ∨ (k < 64 * t + 64 ∧ k % 4 < n)

/-- The output buffer agrees with `G` wherever it has been written. -/
def Filled (G : S2048.Idx → F .f32) (t n : ℕ) (f : S2048.Idx → F .f32) : Prop := ∀ i : S2048.Idx, done t n (i 0).val → f i = G i

theorem Filled.start (G f : S2048.Idx → F .f32) : Filled G 0 0 f := fun i h => by
  rcases h with h | h <;> omega

theorem Filled.next {G f : S2048.Idx → F .f32} {t : ℕ} (h : Filled G t 4 f) : Filled G (t + 1) 0 f := fun i hi => h i (by
  rcases hi with hi | hi
  · by_cases hh : (i 0).val < 64 * t
    · exact .inl hh
    · exact .inr ⟨by omega, by omega⟩
  · omega)

theorem Filled.all {G f : S2048.Idx → F .f32} (h : Filled G 32 0 f) : f = G :=
  funext fun i => h i (.inl (by have : (i 0).val < 2048 := (i 0).isLt; omega))

/-- The indices a trip loads: lane `k` of trip `t` is index `16 t + k` of the tile's. -/
def Lanes (x : S512.Idx → BitVec 32) (t : ℕ) (v : S16.Idx → BitVec 32) : Prop :=
  ∀ (k : S16.Idx) (i : S512.Idx), (i 0).val = 16 * t + (k 0).val → v k = x i

/-- The trip's `j`-th load and store: what is stored agrees with the tile's result, so the store extends the part of the
    output that does. -/
theorem Filled.store {x : S512.Idx → BitVec 32} {T : S256.Idx → F .f32} {t : Fin k1_t1_loop.trips} {j : ℕ} (hj : j < 4)
    {v : Vec F S16 .i32} (hl : Lanes x t.val v) (hx : ∀ i, (x i).toNat < 64) {w w' : IVec S16 32}
    (hw : ∀ k, (w k).toNat = (v k).toNat * 4 + j) (hw' : ∀ k, (w' k).toNat = 64 * t.val + 4 * (k 0).val + j)
    (h : ∀ a x, ((![w] : Fin 1 → IVec S16 32) a x).toNat < S256.size a)
    (h' : ∀ a x, ((![w'] : Fin 1 → IVec S16 32) a x).toNat < S2048.size a)
    {f : S2048.Idx → F .f32} (hf : Filled (tileOut x T) t.val j f) :
    Filled (tileOut x T) t.val (j + 1)
      (storeIdx (F := F) (e := .f32) f ![w'] (loadIdx (F := F) (e := .f32) T ![w] h) (fun _ => 1#1) false h') := by
  classical
  have ht : t.val < 32 := t.isLt.trans_eq trips_eq
  have hat : ∀ k, (idxAt (s := S2048) ![w'] h' k 0).val = 64 * t.val + 4 * (k 0).val + j := fun k => hw' k
  intro i hi
  rw [Scatter.storeIdx_apply (F := F) (e := .f32) f (tileOut x T) ![w'] _ h' ?_ i]
  · split
    · rfl
    · rename_i hn
      refine hf i ?_
      rcases hi with hi | ⟨hi, hm⟩
      · exact .inl hi
      · by_cases hlt : (i 0).val < 64 * t.val
        · exact .inl hlt
        refine .inr ⟨hi, ?_⟩
        by_contra hc
        refine hn ⟨fun a => ⟨((i 0).val - 64 * t.val) / 4, by rw [Fin.eq_zero a]; show _ < 16; omega⟩, ?_⟩
        funext a
        obtain rfl := Fin.eq_zero a
        refine Fin.ext ?_
        rw [hat]
        show 64 * t.val + 4 * (((i 0).val - 64 * t.val) / 4) + j = (i 0).val
        omega
  · intro k
    have hk : (k 0).val < 16 := (k 0).isLt
    have hr : v k = x (row (idxAt (s := S2048) ![w'] h' k)) := hl k _ (by
      show (idxAt (s := S2048) ![w'] h' k 0).val / 4 = _
      rw [hat]; omega)
    unfold loadIdx tileOut
    congr 1
    funext a
    obtain rfl := Fin.eq_zero a
    refine Fin.ext ?_
    show (w k).toNat = ((x (row (idxAt (s := S2048) ![w'] h' k))).toNat * 4 + (idxAt (s := S2048) ![w'] h' k 0).val % 4) % 256
    have := hx (row (idxAt (s := S2048) ![w'] h' k))
    rw [hw, hr, hat]; omega

end Cert.Proof.KernelIdeal

end
-- ==== Proof.KernelIdeal.Setup.lean ====
/-
  The program as the launch sees it: its labels, its SparseCore configuration, the resource algebra, and the pieces of the
  arrays the 32 tiles work on. Tile `w` (twice its subcore number plus its SparseCore's) reads 512 indices and the whole table, the table by a
  read share of its own, and writes 2048 output elements.
-/
module

public import proofs.«01_k».proof.Proof.KernelIdeal.Words
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels of the TensorCore pipeline beside the SparseCore kernel's. -/
abbrev ΛP : Labels := Pipeline.Sig Λ₀ (Fin 1) fun p => (pcfgs (F := F) p).Adm
/-- The SparseCore call. -/
abbrev K : SparseCore.Cfg τ sig (ΛP (F := F)) 1 := sc (F := F)
/-- The bodies below the SparseCore call. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and unscoped, and no task buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes, the pipeline's staging cells, the transfers' counters -/

abbrev UH : Type := URounds (GSem nD τ sig) ℕ
abbrev UP : Type := UR sig nD τ
abbrev UU : Type := UH × (UP × Counters)

local notation "𝕄" => MT nD τ sig (HIx 1) (Elt F) ℕ UU ℕ

/-- Where the handshakes' state lives. -/
abbrev EH : Emb UH (MT nD τ sig (HIx 1) (Elt F) ℕ UU ℕ) := embL
/-- Where the pipeline's state lives. -/
def EP : Emb UP (MT nD τ sig (HIx 1) (Elt F) ℕ UU ℕ) :=
  (Emb.inl : Emb UP (UP × Counters)).trans (embR (nD := nD) (τ := τ) (sig := sig) (Ix := HIx 1) (Val := Elt F) (Name := ℕ) (A := UH) (B := UP × Counters) (Lvl := ℕ))

instance EP_landsIn : (EP : Emb UP 𝕄).LandsIn (upEmb : UEmb _ 𝕄) := by unfold EP; infer_instance

/-! ## The arrays and the tiles' pieces of them -/

abbrev xLoc (d : Dev nD) : Loc nD τ sig := (SparseCore.T d).loc main_arg0
abbrev tLoc (d : Dev nD) : Loc nD τ sig := (SparseCore.T d).loc main_v4
abbrev oLoc (d : Dev nD) : Loc nD τ sig := (SparseCore.T d).loc main_v5

abbrev xV : Memref sig .scVector .hbm S16384 .i32 := Memref.whole main_arg0_scv
abbrev tV : Memref sig .scVector .hbm S256 .f32 := Memref.whole main_v4_scv
abbrev oV : Memref sig .scVector .hbm S65536 .f32 := Memref.whole main_v5_scv
/-- A tile's scratch: its indices, its copy of the table, its output. -/
abbrev sX : Memref sig .scVector .vmem S512 .i32 := Memref.whole cc1_scratch0
abbrev sT : Memref sig .scVector .vmem S256 .f32 := Memref.whole cc1_scratch1
abbrev sO : Memref sig .scVector .vmem S2048 .f32 := Memref.whole cc1_scratch2

theorem xdiv : 32 ∣ S16384.size 0 := ⟨512, rfl⟩
theorem odiv : 32 ∣ S65536.size 0 := ⟨2048, rfl⟩
/-- The elements of the indices, and of the output, that are tile `w`'s. -/
abbrev xSet (w : Fin 32) : Finset S16384.Idx := (Rect.part (s := S16384) (a₀ := 0) xdiv w).set
abbrev oSet (w : Fin 32) : Finset S65536.Idx := (Rect.part (s := S65536) (a₀ := 0) odiv w).set
/-- Tile `w`'s read share of the table. -/
def tShare (w : Fin 32) : PosShare TreeShare := Transfers.dealOf fullShare Finset.univ w

/-- The number of the tile on subcore `s` of SparseCore `c`. -/
def wid (c : Fin 2) (s : Fin 16) : Fin 32 := ⟨2 * s.val + c.val, by omega⟩

/-- The SparseCores and their subcores number the 32 tiles. -/
def widEquiv : Fin 2 × Fin 16 ≃ Fin 32 where
  toFun p := wid p.1 p.2
  invFun w := (⟨w.val % 2, by omega⟩, ⟨w.val / 2, by omega⟩)
  left_inv p := by
    refine Prod.ext (Fin.ext ?_) (Fin.ext ?_)
    · show (2 * p.2.val + p.1.val) % 2 = p.1.val; omega
    · show (2 * p.2.val + p.1.val) / 2 = p.2.val; omega
  right_inv w := Fin.ext (show 2 * (w.val / 2) + w.val % 2 = w.val by omega)

/-- What the two SparseCores' tiles hold together is what the 32 tiles hold. -/
theorem bigSep_tiles (Φ : Fin 32 → sProp 𝕄) :
    (bigSep Finset.univ fun c : Fin 2 => bigSep Finset.univ fun s : Fin 16 => Φ (wid c s)) = bigSep Finset.univ Φ := by
  rw [← bigSep_univ_prod fun p : Fin 2 × Fin 16 => Φ (wid p.1 p.2), ← Finset.map_univ_equiv widEquiv, SparseCore.bigSep_map]
  rfl

theorem xPts_tiles (d : Dev nD) (f : Buf (Elt F) (xLoc d)) :
    (xLoc d ↦{fullShare} f : sProp 𝕄) = bigSep Finset.univ fun w : Fin 32 => xLoc d ↦[xSet w]{fullShare} f := by
  rw [← pointsTo_biUnion Finset.univ (ℓ := xLoc d) xSet (fun i _ j _ h => Rect.part_disjoint xdiv h), Rect.biUnion_part xdiv]
theorem oPts_tiles (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet (fun i _ j _ h => Rect.part_disjoint odiv h), Rect.biUnion_part odiv]
theorem tPts_tiles (d : Dev nD) (f : Buf (Elt F) (tLoc d)) :
    (tLoc d ↦{fullShare} f : sProp 𝕄) = bigSep Finset.univ fun w : Fin 32 => tLoc d ↦{tShare w} f :=
  Transfers.pointsTo_deal Finset.univ ⟨0, Finset.mem_univ _⟩ fullShare

/-- Every index names a row of the table. -/
def InRange (X : S16384.Idx → BitVec 32) : Prop := ∀ i, (X i).toNat < 64

/-- The index, of the 16384, whose row the `k`-th element of the output belongs to. -/
def rowOf (k : S65536.Idx) : S16384.Idx := fun a => ⟨(k 0).val / 4, by
  rw [Fin.eq_zero a]; have : (k 0).val < 65536 := (k 0).isLt; show _ < 16384; omega⟩

/-- The whole output: element `4 r + j` is the table at four times index `r`, plus `j`. -/
def gath (X : S16384.Idx → BitVec 32) (T : S256.Idx → F .f32) : S65536.Idx → F .f32 :=
  fun k => T (cell ((X (rowOf k)).toNat * 4 + (k 0).val % 4))

/-- What tile `w` is handed: its indices, its share of the table, its part of the output at whatever that holds. -/
def tileIn (d : Dev nD) (X : Buf (Elt F) (xLoc d)) (T : Buf (Elt F) (tLoc d)) (w : Fin 32) : sProp 𝕄 :=
  iprop((xLoc d ↦[xSet w]{fullShare} X) ∗ (tLoc d ↦{tShare w} T) ∗ ∃ f, oLoc d ↦[oSet w]{fullShare} f)

/-- What it hands back: the same, its part of the output computed. -/
def tileBack (d : Dev nD) (X : Buf (Elt F) (xLoc d)) (T : Buf (Elt F) (tLoc d)) (w : Fin 32) : sProp 𝕄 :=
  iprop((xLoc d ↦[xSet w]{fullShare} X) ∗ (tLoc d ↦{tShare w} T) ∗ oLoc d ↦[oSet w]{fullShare} (gath X T : Buf (Elt F) (oLoc d)))

instance tileIn_storable (d : Dev nD) (X : Buf (Elt F) (xLoc d)) (T : Buf (Elt F) (tLoc d)) (w : Fin 32) :
    BI.Storable (upEmb : UEmb _ 𝕄) (tileIn d X T w) := by unfold tileIn; infer_instance
instance tileBack_storable (d : Dev nD) (X : Buf (Elt F) (xLoc d)) (T : Buf (Elt F) (tLoc d)) (w : Fin 32) :
    BI.Storable (upEmb : UEmb _ 𝕄) (tileBack d X T w) := by unfold tileBack; infer_instance

end Cert.Proof.KernelIdeal

end
-- ==== Proof.KernelIdeal.Tile.lean ====
/-
  One tile's run of the SparseCore kernel: its 512 indices and the whole table are copied in, 32 trips write 64 elements of its output
  each, and its 2048 output elements are copied out. What it leaves there is `gath` of the indices and of the table.
-/
module

public import proofs.«01_k».proof.Proof.KernelIdeal.Setup

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid1.Coords)

abbrev cV (L : grid1.Coords) : Fin τ.nSC := (L 0).castLE hcore1
abbrev jV (L : grid1.Coords) : Fin τ.nSub := (L 1).castLE hsub1
theorem bound0 : grid1.bound 0 = 2 := rfl
theorem bound1 : grid1.bound 1 = 16 := rfl
/-- The number of the tile at coordinates `L`. -/
abbrev wL (L : grid1.Coords) : Fin 32 := wid (Fin.cast bound0 (L 0)) (Fin.cast bound1 (L 1))

/-! ## The pieces of the arrays, as the body names them -/

abbrev xRect (L : grid1.Coords) : Rect S16384 := Rect.unit (s := S16384) (k1_off1 L) S512.size (k1_off1_inb L)
abbrev oRect (L : grid1.Coords) : Rect S65536 := Rect.unit (s := S65536) (k1_off3 L) S2048.size (k1_off3_inb L)
abbrev xK (L : grid1.Coords) : Memref sig .scVector .hbm S512 .i32 := xV.slice (xRect L) (fun _ => rfl)
abbrev oK (L : grid1.Coords) : Memref sig .scVector .hbm S2048 .f32 := oV.slice (oRect L) (fun _ => rfl)

theorem xRect_eq : xRect L = Rect.part (s := S16384) (a₀ := 0) xdiv (wL L) := by
  unfold xRect Rect.part Rect.block
  congr 1 <;> funext a <;> obtain rfl : a = 0 := Fin.eq_zero a
  · rw [k1_off1_eq]; show 1024 * (L 1).val + 512 * (L 0).val = (2 * (L 1).val + (L 0).val) * 512; omega
  · simp [Shape.partSize]
theorem oRect_eq : oRect L = Rect.part (s := S65536) (a₀ := 0) odiv (wL L) := by
  unfold oRect Rect.part Rect.block
  congr 1 <;> funext a <;> obtain rfl : a = 0 := Fin.eq_zero a
  · rw [k1_off3_eq]; show 4096 * (L 1).val + 2048 * (L 0).val = (2 * (L 1).val + (L 0).val) * 2048; omega
  · simp [Shape.partSize]

theorem set_xK : (xK L).view.set = xSet (wL L) := by
  show (xV.view.slice (xRect L)).set = _
  rw [xRect_eq]
  exact (View.set_slice ..).trans Finset.map_refl
theorem set_oK : (oK L).view.set = oSet (wL L) := by
  show ((oV).view.slice (oRect L)).set = _
  rw [oRect_eq]
  exact (View.set_slice ..).trans Finset.map_refl

theorem pts_xK (f : Buf (Elt F) (xLoc d)) :
    ((xK L).view.loc (V d (cV L) (jV L)) ↦[(xK L).view.set]{fullShare} f : sProp 𝕄) = xLoc d ↦[xSet (wL L)]{fullShare} f := by
  rw [set_xK]
theorem pts_oK (f : Buf (Elt F) (oLoc d)) :
    ((oK L).view.loc (V d (cV L) (jV L)) ↦[(oK L).view.set]{fullShare} f : sProp 𝕄) = oLoc d ↦[oSet (wL L)]{fullShare} f := by
  rw [set_oK]
theorem pts_tV (q : PosShare TreeShare) (f : Buf (Elt F) (tLoc d)) :
    (tV.view.loc (V d (cV L) (jV L)) ↦{q} f : sProp 𝕄) = tLoc d ↦{q} f := rfl
theorem pts_sX (f : Buf (Elt F) ((V d (cV L) (jV L)).loc cc1_scratch0)) :
    (sX.view.loc (V d (cV L) (jV L)) ↦{fullShare} f : sProp 𝕄) = (V d (cV L) (jV L)).loc cc1_scratch0 ↦{fullShare} f := rfl
theorem pts_sT (f : Buf (Elt F) ((V d (cV L) (jV L)).loc cc1_scratch1)) :
    (sT.view.loc (V d (cV L) (jV L)) ↦{fullShare} f : sProp 𝕄) = (V d (cV L) (jV L)).loc cc1_scratch1 ↦{fullShare} f := rfl
theorem pts_sO (f : Buf (Elt F) ((V d (cV L) (jV L)).loc cc1_scratch2)) :
    (sO.view.loc (V d (cV L) (jV L)) ↦{fullShare} f : sProp 𝕄) = (V d (cV L) (jV L)).loc cc1_scratch2 ↦{fullShare} f := rfl

/-! ## The tile's own semaphores and buffers -/

/-- The cells of the three copies' semaphores. -/
abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)

/-- A tile's semaphores at zero are the three copies' and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L)))
              fun g => semVal g 0) := by
  unfold SparseCore.Cfg.ownSems0
  rw [SparseCore.bigSep_erase' ((mem_ownCells (g := cell0 d (cV L) (jV L))).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc1_scoped2.sem : SemLoc sig).isScoped .scVector = true; decide⟩⟩⟩)]

/-- A tile's buffers are its three scratches, each at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

/-! ## The body -/

/-- The indices tile `L` copies in. -/
def xTile (X : Buf (Elt F) (xLoc d)) : S512.Idx → BitVec 32 := (xK L).view.read (Elt F) X

/-- Before trip `t`: the two inputs as copied, the output filled for `t` trips. -/
def inv [FloatOps F] (xs : S512.Idx → BitVec 32) (T : S256.Idx → F .f32) (t : ℕ) (_ : Unit) : sProp 𝕄 :=
  iprop((sX.view.loc (V d (cV L) (jV L)) ↦{fullShare} (xs : Buf (Elt F) (sX.view.loc (V d (cV L) (jV L)))))
    ∗ (sT.view.loc (V d (cV L) (jV L)) ↦{fullShare} (T : Buf (Elt F) (sT.view.loc (V d (cV L) (jV L)))))
    ∗ ∃ f : S2048.Idx → F .f32, ⌜Filled (tileOut xs T) t 0 f⌝ ∗ sO.view.loc (V d (cV L) (jV L)) ↦{fullShare} (f : Buf (Elt F) (sO.view.loc (V d (cV L) (jV L)))))

theorem xTile_lt (X : Buf (Elt F) (xLoc d)) (hX : InRange X) : ∀ i, (xTile d L X i).toNat < 64 := fun _ => hX _

/-- What tile `L` computes of its own indices is its part of the whole output. -/
theorem tileOut_eq (X : Buf (Elt F) (xLoc d)) (T : S256.Idx → F .f32) (x : S2048.Idx) :
    tileOut (xTile d L X) T x = gath X T ((oK L).view.emb x) := by
  have hx : (x 0).val < 2048 := (x 0).isLt
  have he : (((oK L).view.emb x) 0).val = 4096 * (L 1).val + 2048 * (L 0).val + (x 0).val := by
    show k1_off3 L 0 + 1 * (x 0).val = _
    rw [k1_off3_eq]
    show 4096 * (L 1).val + 2048 * (L 0).val + 1 * (x 0).val = _
    omega
  have hr : (xK L).view.emb (row x) = rowOf ((oK L).view.emb x) := by
    funext a
    obtain rfl := Fin.eq_zero a
    apply Fin.ext
    show k1_off1 L 0 + 1 * ((x 0).val / 4) = (((oK L).view.emb x) 0).val / 4
    rw [k1_off1_eq, he]
    show 1024 * (L 1).val + 512 * (L 0).val + 1 * ((x 0).val / 4) = _
    omega
  unfold tileOut gath
  rw [← hr, he]
  show T (cell ((X ((xK L).view.emb (row x))).toNat * 4 + (x 0).val % 4)) = _
  congr 3
  omega

/-- The output's part of tile `L`, the tile's results written to it, holds the whole output's values there. -/
theorem pts_done (X : Buf (Elt F) (xLoc d)) (T : S256.Idx → F .f32) (fo : Buf (Elt F) (oLoc d)) :
    ((oK L).view.loc (V d (cV L) (jV L)) ↦[(oK L).view.set]{fullShare}
        ((oK L).view.writes (Elt F) fo [⟨Rect.whole S2048, tileOut (xTile d L X) T⟩] : Buf (Elt F) (oLoc d)) : sProp 𝕄)
      = oLoc d ↦[oSet (wL L)]{fullShare} (gath X T : Buf (Elt F) (oLoc d)) := by
  refine Eq.trans (pointsTo_congr fun i hi => ?_) (pts_oK d L _)
  obtain ⟨x, -, rfl⟩ := Finset.mem_map.mp hi
  have hx : (oK L).view.emb x = ((oK L).view.slice (Rect.whole S2048)).emb x :=
    congrArg (oK L).view.emb (Rect.emb_whole_apply S2048 x).symm
  rw [View.writes_singleton, ← tileOut_eq, hx]
  exact View.write_emb_of_mem _ _ (Finset.mem_univ x)

variable [FloatOps F]

/-- A trip's load from the copied table, at the words `idxs`. -/
theorem wp_lookup {T : S256.Idx → F .f32} {idxs : Fin S256.rank → IVec S16 32} {h : ∀ a x, (idxs a x).toNat < S256.size a}
    {hl : sT.view.Loads} {α : Type} {k : Vec F S16 .f32 → Prog (TpuEff nD τ sig (Elt F) Λ₀ (.scVector (cV L) (jV L))) α} {Q : α → sProp 𝕄} :
    (sT.view.loc (V d (cV L) (jV L)) ↦{fullShare} (T : Buf (Elt F) (sT.view.loc (V d (cV L) (jV L)))) : sProp 𝕄)
      ⊢ iprop(((sT.view.loc (V d (cV L) (jV L)) ↦{fullShare} (T : Buf (Elt F) (sT.view.loc (V d (cV L) (jV L)))))
          -∗ wp frame (wpE (defs₀ (F := F)) 𝒱₀ (V d (cV L) (jV L)) none) Set.univ (k (loadIdx T idxs h)) Q)
        -∗ wp frame (wpE (defs₀ (F := F)) 𝒱₀ (V d (cV L) (jV L)) none) Set.univ (SparseCore.vectorLoadIdx sT idxs h hl >>= k) Q) := by
  have hr : (sT.access (.whole S256)).read (Elt F) T = T := Memref.read_access_whole (Elt F) cc1_scratch1 T
  have hh := SparseCore.wp_vectorLoadIdx (defs := defs₀ (F := F)) 𝒱₀ (V d (cV L) (jV L)) none Set.univ (base := sT) (idxs := idxs) (h := h) (hl := hl) (k := k)
    (S := Finset.univ) (q := fullShare) (f := T) (Q := Q) (Finset.subset_univ _)
  rw [hr] at hh
  exact hh

/-- A trip's store to the output scratch, at the words `idxs`. -/
theorem wp_place {f : S2048.Idx → F .f32} {idxs : Fin S2048.rank → IVec S16 32} {v : Vec F S16 .f32} {h : ∀ a x, (idxs a x).toNat < S2048.size a}
    {hs : (sO.access (.whole S2048)).Stores Finset.univ} {α : Type} {k : PUnit → Prog (TpuEff nD τ sig (Elt F) Λ₀ (.scVector (cV L) (jV L))) α} {Q : α → sProp 𝕄} :
    (sO.view.loc (V d (cV L) (jV L)) ↦{fullShare} (f : Buf (Elt F) (sO.view.loc (V d (cV L) (jV L)))) : sProp 𝕄)
      ⊢ iprop(((sO.view.loc (V d (cV L) (jV L)) ↦{fullShare} (storeIdx f idxs v (fun _ => 1#1) false h : Buf (Elt F) (sO.view.loc (V d (cV L) (jV L)))))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx sO idxs v (fun _ => 1#1) false h hs >>= k) Q) := by
  have hr : (sO.access (.whole S2048)).read (Elt F) f = f := Memref.read_access_whole (Elt F) cc1_scratch2 f
  have hh := SparseCore.wp_vectorStoreIdx (defs := defs₀ (F := F)) 𝒱₀ (V d (cV L) (jV L)) none Set.univ (base := sO) (idxs := idxs) (v := v) (mask := fun _ => 1#1)
    (add := false) (h := h) (hs := hs) (k := k) (f := f) (Q := Q)
  rw [hr] at hh
  have hw : (sO.access (.whole S2048)).write (Elt F) f (storeIdx f idxs v (fun _ => 1#1) false h) Finset.univ = storeIdx f idxs v (fun _ => 1#1) false h :=
    Memref.write_access_whole_univ (Elt F) cc1_scratch2 f _
  rw [hw] at hh
  have hset : (sO.access (.whole S2048)).set = Finset.univ := Memref.set_access_whole cc1_scratch2
  rw [hset] at hh
  exact hh

/-- The 16 indices trip `t` loads are the tile's from `16 t` on. -/
theorem lanes_read (xs : S512.Idx → BitVec 32) (t : Fin k1_t1_loop.trips) :
    Lanes xs t.val (sX.view.readAt (Elt F) (Rect.unit (s := S512) (k1_off2 t) S16.size (k1_off2_inb t)).toLoadRect xs) := by
  intro k i hi
  show xs _ = xs i
  congr 1
  funext a
  obtain rfl := Fin.eq_zero a
  apply Fin.ext
  rw [hi]
  show k1_off2 t 0 + 1 * (k 0).val = _
  rw [k1_off2_eq]
  show 16 * t.val + 1 * (k 0).val = _
  omega

/-- One trip: 64 more elements of the output are filled. -/
theorem trip (xs : S512.Idx → BitVec 32) (T : S256.Idx → F .f32) (hx : ∀ i, (xs i).toNat < 64) (t : Fin k1_t1_loop.trips) (u : Unit) :
    inv d L xs T t.val u ⊢ wp frame (wpE (defs₀ (F := F)) 𝒱₀ (V d (cV L) (jV L)) none) Set.univ
      (k1_t1_body L xV (Memref.isWhole_whole _) tV (Memref.isWhole_whole _) oV (Memref.isWhole_whole _)
            sX (Memref.isWhole_whole _) sT (Memref.isWhole_whole _) sO (Memref.isWhole_whole _) cc1_scoped0 cc1_scoped1 cc1_scoped2 t u)
      fun u => inv d L xs T (t.val + 1) u := by
  unfold k1_t1_body inv
  simp only [Prog.lift, Prog.bind_op, Prog.bind_ret, Prog.pure_eq_ret]
  iintro ⟨H0, H1, ⟨%f, ⟨%hf, H2⟩⟩⟩
  iapply (wp_load 𝒱₀ (V d (cV L) (jV L)) none Set.univ (m := sX) (S := Finset.univ) (Finset.subset_univ _)) $$ H0; iintro H0
  generalize hv : sX.view.readAt (Elt F) (Rect.unit (s := S512) (k1_off2 t) S16.size (k1_off2_inb t)).toLoadRect xs = w
  obtain ⟨v, rfl⟩ : ∃ v : Vec F S16 .i32, v = w := ⟨w, rfl⟩
  have hl : Lanes xs t.val v := hv ▸ lanes_read xs t
  have hvx : ∀ k, (v k).toNat < 64 := fun k => by
    have hk : (k 0).val < 16 := (k 0).isLt
    have ht : t.val < 32 := t.isLt.trans_eq trips_eq
    have hlt : 16 * t.val + (k 0).val < 512 := by omega
    have hi := hl k (fun a => ⟨16 * t.val + (k 0).val, by rw [Fin.eq_zero a]; exact hlt⟩) rfl
    rw [hi]; exact hx _
  -- lookup and place 0
  rw [wp_assume_of _ _ _ _ (show k1_chk1 (k1_pay3 v) from load_inb (k1_pay3 v) v 0 (by decide) hvx fun x => pay3_toNat v x (hvx x))]
  iapply (wp_lookup (F := F) d L) $$ H1; iintro H1
  rw [wp_assume_of _ _ _ _ (show k1_chk2 (k1_pay4 t) from store_inb (k1_pay4 t) t 0 (by decide) (pay4_toNat t))]
  iapply (wp_place (F := F) d L) $$ H2; iintro H2
  -- lookup and place 1
  rw [wp_assume_of _ _ _ _ (show k1_chk3 (k1_pay5 v) from load_inb (k1_pay5 v) v 1 (by decide) hvx fun x => pay5_toNat v x (hvx x))]
  iapply (wp_lookup (F := F) d L) $$ H1; iintro H1
  rw [wp_assume_of _ _ _ _ (show k1_chk4 (k1_pay6 t) from store_inb (k1_pay6 t) t 1 (by decide) (pay6_toNat t))]
  iapply (wp_place (F := F) d L) $$ H2; iintro H2
  -- lookup and place 2
  rw [wp_assume_of _ _ _ _ (show k1_chk5 (k1_pay7 v) from load_inb (k1_pay7 v) v 2 (by decide) hvx fun x => pay7_toNat v x (hvx x))]
  iapply (wp_lookup (F := F) d L) $$ H1; iintro H1
  rw [wp_assume_of _ _ _ _ (show k1_chk6 (k1_pay8 t) from store_inb (k1_pay8 t) t 2 (by decide) (pay8_toNat t))]
  iapply (wp_place (F := F) d L) $$ H2; iintro H2
  -- lookup and place 3
  rw [wp_assume_of _ _ _ _ (show k1_chk7 (k1_pay9 v) from load_inb (k1_pay9 v) v 3 (by decide) hvx fun x => pay9_toNat v x (hvx x))]
  iapply (wp_lookup (F := F) d L) $$ H1; iintro H1
  rw [wp_assume_of _ _ _ _ (show k1_chk8 (k1_pay10 t) from store_inb (k1_pay10 t) t 3 (by decide) (pay10_toNat t))]
  iapply (wp_place (F := F) d L) $$ H2; iintro H2
  sl_step
  isplitl [H0]; · iexact H0
  isplitl [H1]; · iexact H1
  iexists _
  isplitr
  rotate_left
  · iexact H2
  ipureintro
  exact (Filled.store (by decide) hl hx (fun k => pay9_toNat v k (hvx k)) (pay10_toNat t) _ _
    (Filled.store (by decide) hl hx (fun k => pay7_toNat v k (hvx k)) (pay8_toNat t) _ _
      (Filled.store (by decide) hl hx (fun k => pay5_toNat v k (hvx k)) (pay6_toNat t) _ _
        (Filled.store (by decide) hl hx (fun k => pay3_toNat v k (hvx k)) (pay4_toNat t) _ _ hf)))).next

/-- One tile's run: handed its indices, its share of the table and its part of the output, it hands the first two back as they were and
    the part of the output computed; its scratches, its semaphores and its debts are as it found them. -/
theorem tile_body (X : Buf (Elt F) (xLoc d)) (Tb : Buf (Elt F) (tLoc d)) (hX : InRange X) (hF : (K (F := F)).Facts)
    (O : CellTallies nD τ sig (HIx 1)) (W : Waits sig (HIx 1)) (hO : ∀ g, O g none = 0) :
    iprop(levAts (K (F := F)).L (K (F := F)).lev ∗ emp ∗ tileIn d X Tb (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather L xV (Memref.isWhole_whole _) tV (Memref.isWhole_whole _) oV (Memref.isWhole_whole _)
            sX (Memref.isWhole_whole _) sT (Memref.isWhole_whole _) sO (Memref.isWhole_whole _) cc1_scoped0 cc1_scoped1 cc1_scoped2)
          fun _ => iprop(tileBack d X Tb (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc1__sc_gather_eq_skeleton, (K (F := F)).scopedBufs_V hF d (cV L) (jV L), SparseCore.Cfg.scopedSems0_V (Val := Elt F) d (cV L) (jV L), ownSems0_V, ownBufs_V]
  unfold tileIn tileBack
  iintro ⟨#Hlv, -, ⟨Hx, Ht, ⟨%fo, Ho⟩⟩, ⟨⟨%f0, H0⟩, ⟨%f1, H1⟩, ⟨%f2, H2⟩, Hbufs⟩, ⟨Hm0, Hm1, Hm2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xK (F := F) d L _).symm) $$ Hx
  ihave Ho' := (Entails.of_eq (pts_oK (F := F) d L _).symm) $$ Ho
  ihave Ht' := (Entails.of_eq (pts_tV (F := F) d L _ _).symm) $$ Ht
  ihave H0' := (Entails.of_eq (pts_sX (F := F) d L _).symm) $$ H0
  ihave H1' := (Entails.of_eq (pts_sT (F := F) d L _).symm) $$ H1
  ihave H2' := (Entails.of_eq (pts_sO (F := F) d L _).symm) $$ H2
  sl_unfold [cc1__sc_gather_skel]
  sl_exec
  ihave H0 := (Entails.of_eq (congrArg (fun f => (sX.view.loc (V d (cV L) (jV L)) ↦{fullShare} f : sProp 𝕄)) (View.write_whole_univ cc1_scratch0 _ _))) $$ H0'
  ihave H1 := (Entails.of_eq (congrArg (fun f => (sT.view.loc (V d (cV L) (jV L)) ↦{fullShare} f : sProp 𝕄)) (View.write_whole_univ cc1_scratch1 _ _))) $$ H1'
  sl_for (inv d L (xTile d L X) Tb) $$ [H0 H1 H2']
  case region =>
    intro t u
    exact trip d L (xTile d L X) Tb (xTile_lt d L X hX) t u
  · unfold inv
    isplitl [H0]; · iexact H0
    isplitl [H1]; · iexact H1
    iexists f2
    isplitr; · ipureintro; exact Filled.start _ _
    iexact H2'
  iintro %_ HI
  unfold inv
  icases HI with ⟨H0, H1, ⟨%f, ⟨%hf, H2⟩⟩⟩
  have ht : Scf.trips k1_t1_loop.lb k1_t1_loop.ub k1_t1_loop.st = 32 := trips_eq
  rw [ht] at hf
  obtain rfl := hf.all
  sl_exec
  sl_step
  isplitl [Hx' Ht' Ho']
  · isplitl [Hx']; · iapply (Entails.of_eq (pts_xK (F := F) d L _)); iexact Hx'
    isplitl [Ht']; · iexact Ht'
    iapply (Entails.of_eq (pts_done (F := F) d L X Tb fo)); iexact Ho'
  isplitl [H0 H1 H2 Hbufs]
  · isplitl [H0]; · iexists _; iexact H0
    isplitl [H1]; · iexists _; iexact H1
    isplitl [H2]; · iexists _; iexact H2
    iexact Hbufs
  isplitl [Hm0 Hm1 Hm2 Hsems]
  · isplitl [Hm0]; · iexact Hm0
    isplitl [Hm1]; · iexact Hm1
    isplitl [Hm2]; · iexact Hm2
    iexact Hsems
  iexists _
  isplitr
  rotate_left
  · iexact HO
  ipureintro
  intro p hp
  simp only [Finset.mem_insert] at hp
  rcases hp with rfl | rfl | rfl | hp
  · exact .inr (.inl rfl)
  · exact .inr (.inl rfl)
  · exact .inr (.inl rfl)
  · exact .inl hp

end Cert.Proof.KernelIdeal

end
-- ==== Proof.KernelIdeal.Region.lean ====
/-
  The TensorCore kernel: its body run over its eight staging buffers, the pipeline's data for it, and the region of `main` that runs it.
  It reads the embedding table, the weights and the biases, and leaves the processed table (`k0_pay1`) in its result.
-/
module

public import proofs.«01_k».proof.Proof.KernelIdeal.Setup
public import proofs.«01_k».proof.Proof.Gen.KernelIdeal.Launch
public import proofs.«01_k».proof.Proof.Gen.KernelIdeal.Skeleton
public import Idealize.ShloMosaic.Lib.Pipeline.RegionArrays
public import Idealize.ShloMosaic.Lib.Pipeline.ValueKit

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## The body -/

theorem zeros : (![0, 0] : Fin 2 → ℕ) = fun _ => 0 := by
  funext a; fin_cases a <;> rfl

/-- The result's buffer after the body's store: the table computed from the operands' buffers, whatever the buffer held. -/
theorem stored (f0 : S64x4.Idx → F .f32) (f1 : S4x10.Idx → F .f32) (f2 : S1x10.Idx → F .f32) (f3 : S10x10.Idx → F .f32)
    (f4 : S1x10.Idx → F .f32) (f5 : S10x4.Idx → F .f32) (f6 : S1x4.Idx → F .f32) (f7 : S64x4.Idx → F .f32) :
    ((stage0_7 0).view.writes (Elt F) f7 [⟨Rect.unit (s := S64x4) ![0, 0] S64x4.size inb_S64x4_S64x4_0_0,
      k0_pay1 ((stage0_0 0).view.readAt (Elt F) (Rect.unit (s := S64x4) ![0, 0] S64x4.size inb_S64x4_S64x4_0_0).toLoadRect f0)
        ((stage0_1 0).view.readAt (Elt F) (Rect.unit (s := S4x10) ![0, 0] S4x10.size inb_S4x10_S4x10_0_0).toLoadRect f1)
        ((stage0_2 0).view.readAt (Elt F) (Rect.unit (s := S1x10) ![0, 0] S1x10.size inb_S1x10_S1x10_0_0).toLoadRect f2)
        ((stage0_3 0).view.readAt (Elt F) (Rect.unit (s := S10x10) ![0, 0] S10x10.size inb_S10x10_S10x10_0_0).toLoadRect f3)
        ((stage0_4 0).view.readAt (Elt F) (Rect.unit (s := S1x10) ![0, 0] S1x10.size inb_S1x10_S1x10_0_0).toLoadRect f4)
        ((stage0_5 0).view.readAt (Elt F) (Rect.unit (s := S10x4) ![0, 0] S10x4.size inb_S10x4_S10x4_0_0).toLoadRect f5)
        ((stage0_6 0).view.readAt (Elt F) (Rect.unit (s := S1x4) ![0, 0] S1x4.size inb_S1x4_S1x4_0_0).toLoadRect f6)⟩] : S64x4.Idx → F .f32)
      = k0_pay1 f0 f1 f2 f3 f4 f5 f6 := by
  have r0 := Memref.readAt_unit_zero (Elt F) cc0_stg0_0 zeros inb_S64x4_S64x4_0_0 f0
  have r1 := Memref.readAt_unit_zero (Elt F) cc0_stg1_0 zeros inb_S4x10_S4x10_0_0 f1
  have r2 := Memref.readAt_unit_zero (Elt F) cc0_stg2_0 zeros inb_S1x10_S1x10_0_0 f2
  have r3 := Memref.readAt_unit_zero (Elt F) cc0_stg3_0 zeros inb_S10x10_S10x10_0_0 f3
  have r4 := Memref.readAt_unit_zero (Elt F) cc0_stg4_0 zeros inb_S1x10_S1x10_0_0 f4
  have r5 := Memref.readAt_unit_zero (Elt F) cc0_stg5_0 zeros inb_S10x4_S10x4_0_0 f5
  have r6 := Memref.readAt_unit_zero (Elt F) cc0_stg6_0 zeros inb_S1x4_S1x4_0_0 f6
  rw [View.writes_singleton]
  refine (Memref.write_access_unit_zero_univ (Elt F) cc0_stg7_0 zeros inb_S64x4_S64x4_0_0 f7 _).trans ?_
  show k0_pay1 _ _ _ _ _ _ _ = _
  congr 1

/-- From its seven operands' buffers and its result's, the kernel runs to its end, the operands unchanged and the result holding the processed table. -/
theorem mlp_body (c : Dev nD) (f0 : S64x4.Idx → F .f32) (f1 : S4x10.Idx → F .f32) (f2 : S1x10.Idx → F .f32) (f3 : S10x10.Idx → F .f32)
    (f4 : S1x10.Idx → F .f32) (f5 : S10x4.Idx → F .f32) (f6 : S1x4.Idx → F .f32) (f7 : S64x4.Idx → F .f32) (Q : PUnit → sProp 𝕄) :
    iprop(((stage0_0 0).view.loc (c : Thread nD τ) ↦{fullShare} f0) ∗ ((stage0_1 0).view.loc (c : Thread nD τ) ↦{fullShare} f1) ∗ ((stage0_2 0).view.loc (c : Thread nD τ) ↦{fullShare} f2)
      ∗ ((stage0_3 0).view.loc (c : Thread nD τ) ↦{fullShare} f3) ∗ ((stage0_4 0).view.loc (c : Thread nD τ) ↦{fullShare} f4) ∗ ((stage0_5 0).view.loc (c : Thread nD τ) ↦{fullShare} f5)
      ∗ ((stage0_6 0).view.loc (c : Thread nD τ) ↦{fullShare} f6) ∗ ((stage0_7 0).view.loc (c : Thread nD τ) ↦{fullShare} f7)
      ∗ (iprop(((stage0_0 0).view.loc (c : Thread nD τ) ↦{fullShare} f0) ∗ ((stage0_1 0).view.loc (c : Thread nD τ) ↦{fullShare} f1) ∗ ((stage0_2 0).view.loc (c : Thread nD τ) ↦{fullShare} f2)
        ∗ ((stage0_3 0).view.loc (c : Thread nD τ) ↦{fullShare} f3) ∗ ((stage0_4 0).view.loc (c : Thread nD τ) ↦{fullShare} f4) ∗ ((stage0_5 0).view.loc (c : Thread nD τ) ↦{fullShare} f5)
        ∗ ((stage0_6 0).view.loc (c : Thread nD τ) ↦{fullShare} f6) ∗ ((stage0_7 0).view.loc (c : Thread nD τ) ↦{fullShare} (k0_pay1 f0 f1 f2 f3 f4 f5 f6 : S64x4.Idx → F .f32))) -∗ Q ⟨⟩))
    ⊢ wp frame (wpE (defs₀ (F := F)) 𝒱₀ (c : Thread nD τ) none) Set.univ
        (cc0__mlp_table_kernel (stage0_0 0) (hstage0_0 0) (stage0_1 0) (hstage0_1 0) (stage0_2 0) (hstage0_2 0) (stage0_3 0) (hstage0_3 0)
          (stage0_4 0) (hstage0_4 0) (stage0_5 0) (hstage0_5 0) (stage0_6 0) (hstage0_6 0) (stage0_7 0) (hstage0_7 0)) Q := by
  rw [cc0__mlp_table_kernel_eq_skeleton]
  iintro ⟨H0, H1, H2, H3, H4, H5, H6, H7, Hk⟩
  sl_unfold [cc0__mlp_table_kernel_skel]
  sl_exec!
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (Entails.of_eq (congrArg (fun f => (((stage0_7 0).view.loc (c : Thread nD τ)) ↦{fullShare} f : sProp 𝕄))
    (stored f0 f1 f2 f3 f4 f5 f6 _)))
  iexact H7

/-! ## The pipeline's data -/

variable (V : (c : Dev nD) → (b : Ref sig .tc) → Buf (Elt F) ((c : Thread nD τ).loc b))

/-- The processed table, from the arrays' contents. -/
def mlpOf (c : Dev nD) : S64x4.Idx → F .f32 :=
  k0_pay1 (V c main_arg1) (V c main_arg2) (V c main_v0) (V c main_arg4) (V c main_v1) (V c main_arg6) (V c main_v2)

/-- The bound on the pairs the core has waited at: nothing above level zero. -/
def low (c : Dev nD) : Set (SemLoc sig × HIx 1) := {p | (K (F := F)).lev ((c : Thread nD τ), p.1) p.2 ≤ 0}

/-- The data of the run from the contents `V`: the operands' buffers as fetched, the result's at the processed table, the core owing throughout what
    its SparseCore call will pay. -/
def dat (c : Dev nD) : Dat τ (Elt F) (HIx 1) ℕ UU ℕ cfg0 c where
  A w := V c (Pipeline.arrRef spec0 w)
  after w _ := match w with
    | ⟨0, _⟩ => V c main_arg1
    | ⟨1, _⟩ => V c main_arg2
    | ⟨2, _⟩ => V c main_v0
    | ⟨3, _⟩ => V c main_arg4
    | ⟨4, _⟩ => V c main_v1
    | ⟨5, _⟩ => V c main_arg6
    | ⟨6, _⟩ => V c main_v2
    | ⟨7, _⟩ => mlpOf V c
  Φ _ := Pipeline.scopedRest spec0 c
  q _ := fullShare
  owed _ := (K (F := F)).Otc c 0
  recorded _ := low (F := F) c

variable (adm : (p : Fin 1) → (pcfgs (F := F) p).Adm)

/-- The one pipeline's data, as the family the region rule takes. -/
def pdats : (p : Fin 1) → (c : Dev nD) → Dat τ (Elt F) (HIx 1) ℕ UU ℕ (Pipeline.pin (pcfgs (F := F)) adm p) c
  | ⟨0, _⟩ => fun c => dat V c

/-- What an operand's buffer holds when the body runs: its array's contents. -/
theorem before0 (c : Dev nD) (d) : (dat V c).before 0 t0_0 d = V c main_arg1 := by
  unfold Dat.before; rw [if_pos (by decide)]
  exact funext fun j => congrArg (V c main_arg1) (funext fun a => Fin.ext (by fin_cases a <;> exact (Nat.zero_add _).trans (Nat.one_mul _)))
theorem before1 (c : Dev nD) (d) : (dat V c).before 1 t0_0 d = V c main_arg2 := by
  unfold Dat.before; rw [if_pos (by decide)]
  exact funext fun j => congrArg (V c main_arg2) (funext fun a => Fin.ext (by fin_cases a <;> exact (Nat.zero_add _).trans (Nat.one_mul _)))
theorem before2 (c : Dev nD) (d) : (dat V c).before 2 t0_0 d = V c main_v0 := by
  unfold Dat.before; rw [if_pos (by decide)]
  exact funext fun j => congrArg (V c main_v0) (funext fun a => Fin.ext (by fin_cases a <;> exact (Nat.zero_add _).trans (Nat.one_mul _)))
theorem before3 (c : Dev nD) (d) : (dat V c).before 3 t0_0 d = V c main_arg4 := by
  unfold Dat.before; rw [if_pos (by decide)]
  exact funext fun j => congrArg (V c main_arg4) (funext fun a => Fin.ext (by fin_cases a <;> exact (Nat.zero_add _).trans (Nat.one_mul _)))
theorem before4 (c : Dev nD) (d) : (dat V c).before 4 t0_0 d = V c main_v1 := by
  unfold Dat.before; rw [if_pos (by decide)]
  exact funext fun j => congrArg (V c main_v1) (funext fun a => Fin.ext (by fin_cases a <;> exact (Nat.zero_add _).trans (Nat.one_mul _)))
theorem before5 (c : Dev nD) (d) : (dat V c).before 5 t0_0 d = V c main_arg6 := by
  unfold Dat.before; rw [if_pos (by decide)]
  exact funext fun j => congrArg (V c main_arg6) (funext fun a => Fin.ext (by fin_cases a <;> exact (Nat.zero_add _).trans (Nat.one_mul _)))
theorem before6 (c : Dev nD) (d) : (dat V c).before 6 t0_0 d = V c main_v2 := by
  unfold Dat.before; rw [if_pos (by decide)]
  exact funext fun j => congrArg (V c main_v2) (funext fun a => Fin.ext (by fin_cases a <;> exact (Nat.zero_add _).trans (Nat.one_mul _)))

theorem body_ok (c : Dev nD) : BodyObligation (dat V c) (defs₀ (F := F)) 𝒱₀ (none : HIx 1) Set.univ := fun t => by
  obtain rfl := fin_N0 t
  rw [bigSep_W0, bigSep_W0]
  simp only [owns_whole_eq]
  rw [show (dat V c).Φ t0_0.castSucc = Pipeline.scopedRest spec0 c from rfl, show (dat V c).Φ t0_0.succ = Pipeline.scopedRest spec0 c from rfl,
    show (dat V c).owesAt (none : HIx 1) t0_0.succ = (dat V c).owesAt (none : HIx 1) t0_0.castSucc from rfl]
  iintro ⟨HΦ, HO, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, %hf6, H6⟩, ⟨%d7, %f7, -, H7⟩⟩
  rw [before0] at hf0; rw [before1] at hf1; rw [before2] at hf2; rw [before3] at hf3; rw [before4] at hf4; rw [before5] at hf5; rw [before6] at hf6
  subst hf0; subst hf1; subst hf2; subst hf3; subst hf4; subst hf5; subst hf6
  iapply (mlp_body (F := F) c (V c main_arg1) (V c main_arg2) (V c main_v0) (V c main_arg4) (V c main_v1) (V c main_arg6) (V c main_v2) f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [HO]; · iexact HO
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  iexists _; isplitr; swap; (· iexact H7); ipureintro; dsimp only [dat]; rfl

/-- The result's array at the end of the region: the processed table. -/
theorem arr_out (c : Dev nD) : (dat V c).arrAt 7 cfg0.N = mlpOf V c := by
  refine (dat V c).arrAt_eq_of_after_last 7 t0_0 (by decide +kernel) _ fun j => ?_
  dsimp only [dat]
  rfl

/-! ## The region -/

theorem Otc_none (c : Dev nD) (g : GSem nD τ sig) : (K (F := F)).Otc c 0 g none = 0 := by
  by_contra h
  have h1 := (K (F := F)).lev_of_Otc_pos (Nat.pos_of_ne_zero h)
  have h2 : (K (F := F)).lev g none = 0 := rfl
  omega

/-- The core's waits have recorded no pair above level zero. -/
abbrev owesLow (c : Dev nD) : sProp 𝕄 :=
  iprop(∃ W, ⌜(K (F := F)).WBelow (c : Thread nD τ) W 0⌝ ∗ owes (c : Thread nD τ) ((K (F := F)).Otc c 0) W)

variable (V' : (c : Dev nD) → (b : Ref sig .tc) → Buf (Elt F) ((c : Thread nD τ).loc b))

set_option backward.isDefEq.respectTransparency.types false in
/-- The region, entered with every unscoped array at `V` and left with the result's at the processed table and the others as they were. -/
def reg (hout : ∀ c, V' c main_v3 = mlpOf V c) (hne : ∀ c (b : Ref sig .tc), b ≠ main_v3 → V' c b = V c b) :
    Pipeline.RegionSeg (pcfgs (F := F)) adm (pdats V adm) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_ok V c).loose
  hwaits c := Pipeline.cellsWaits_intro _ _ _ 0 c fun w s t => (K (F := F)).mayWait_none _ (Otc_none c)
  pre c := iprop(unscopedBufs c (V c) ∗ owesLow c)
  post c := iprop(unscopedBufs c (V' c) ∗ owesLow c)
  X _ := BI.emp
  Y _ := BI.emp
  Z c := Pipeline.unscopedRest spec0 c (V c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · rw [Pipeline.prefHeld_of_none _ rfl]; iempintro
    isplitl [HO]
    · unfold Pipeline.Dat.owesAt Pipeline.owesWithin
      iexists W
      isplitr; · ipureintro; exact fun p hp => Or.inl (hW p hp)
      iexact HO
    isplitr; · iempintro
    iexact Hrest
  hin c := by
    rw [show (pdats V adm 0 c).Φ 0 = Pipeline.scopedRest spec0 c from rfl]
    iintro ⟨-, -, Hr⟩; iexact Hr
  hout c := by
    rw [Pipeline.ownSems0_none, show (pdats V adm 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c
      (pdats V adm) ((pdats V adm 0 c).share_full fun _ => rfl) (V c) (V' c) ((pdats V adm 0 c).arrAt · cfg0.N)
      (fun w => by
        fin_cases w
        · exact ((pdats V adm 0 c).arrAt_in 0 rfl _).trans (hne c main_arg1 (by decide)).symm
        · exact ((pdats V adm 0 c).arrAt_in 1 rfl _).trans (hne c main_arg2 (by decide)).symm
        · exact ((pdats V adm 0 c).arrAt_in 2 rfl _).trans (hne c main_v0 (by decide)).symm
        · exact ((pdats V adm 0 c).arrAt_in 3 rfl _).trans (hne c main_arg4 (by decide)).symm
        · exact ((pdats V adm 0 c).arrAt_in 4 rfl _).trans (hne c main_v1 (by decide)).symm
        · exact ((pdats V adm 0 c).arrAt_in 5 rfl _).trans (hne c main_arg6 (by decide)).symm
        · exact ((pdats V adm 0 c).arrAt_in 6 rfl _).trans (hne c main_v2 (by decide)).symm
        · exact (arr_out V c).trans (hout c).symm)
      (fun b hb => hne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W
    isplitr
    · ipureintro
      intro p hp
      rcases hW hp with h | ⟨w, s, rfl⟩
      · exact h
      · exact le_rfl
    iexact HO

end Cert.Proof.KernelIdeal

end
-- ==== Proof.KernelIdeal.RegionRun.lean ====
/-
  The call of the TensorCore kernel as `main` makes it, beside the SparseCore call's own state.
-/
module

public import proofs.«01_k».proof.Proof.KernelIdeal.Region

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

variable (V V' : (c : Dev nD) → (b : Ref sig .tc) → Buf (Elt F) ((c : Thread nD τ).loc b))
variable (adm : (p : Fin 1) → (pcfgs (F := F) p).Adm)

theorem cells_inj : Function.Injective (Pipeline.cellOf (nD := nD) (τ := τ) (Pipeline.pin (pcfgs (F := F)) adm)) := cellOf_inj

/-- The ghost state the region runs on. -/
abbrev regionGhost (c : Dev nD) : sProp 𝕄 :=
  iprop(Pipeline.cellsGhost (Pipeline.pin (pcfgs (F := F)) adm) EP 0 c ∗ Pipeline.toksInit (Pipeline.pin (pcfgs (F := F)) adm) EP 0 c)

/-- A region of `main`'s pipeline run as `main` calls it: the region rule, under the SparseCore call's bodies. -/
theorem wp_call (R : Pipeline.RegionSeg (pcfgs (F := F)) adm (pdats V adm) (none : HIx 1) defs₀ 𝒱₀ (K (F := F)).L (K (F := F)).lev 0) (c : Dev nD)
    [∀ e, Nonempty (Elt F e)] (Q : PUnit.{1} → sProp 𝕄) :
    iprop((iprop(boundary (c : Thread nD τ) ∗ R.post c) -∗ Q ⟨⟩)
        ∗ boundary (c : Thread nD τ) ∗ R.pre c ∗ levAts (K (F := F)).L (K (F := F)).lev ∗ regionGhost adm c)
      ⊢ wp frame (wpE ((K (F := F)).defs (D (F := F))) 𝒱 (c : Thread nD τ) none) Set.univ
          (Prog.lift (.customCall (SparseCore.inner (Pipeline.entry 0)) ())) Q := by
  have h := Pipeline.RegionSeg.wp (pcfgs (F := F)) adm (pdats V adm) (none : HIx 1) (cells_inj adm) EP defs₀ 𝒱₀ (K (F := F)).L (K (F := F)).lev
    R c none (fun u hu => nomatch hu) (fun _ => pure PUnit.unit) Q
  have h2 := (K (F := F)).wp_liftProg (D (F := F)) 𝒱 (c : Thread nD τ) Set.univ none
    (.op (.customCall (Pipeline.entry 0) ()) fun _ => pure PUnit.unit) Q
  rw [wp_pure] at h
  have h0 : iprop((iprop(boundary (c : Thread nD τ) ∗ R.post c) -∗ Q ⟨⟩)
        ∗ boundary (c : Thread nD τ) ∗ R.pre c ∗ levAts (K (F := F)).L (K (F := F)).lev ∗ regionGhost adm c)
      ⊢ iprop((iprop(boundary (c : Thread nD τ) ∗ R.post c) -∗ |={Set.univ}=> Q ⟨⟩)
        ∗ boundary (c : Thread nD τ) ∗ R.pre c ∗ levAts (K (F := F)).L (K (F := F)).lev ∗ regionGhost adm c) := by
    iintro ⟨Hk, H⟩
    isplitl [Hk]
    · iintro H
      imodintro
      iapply Hk; iexact H
    iexact H
  exact h0.trans (h.trans h2)

/-- The call of the TensorCore kernel in `main`: from the boundary, every unscoped array at `V` and the region's ghost state, the processed table
    is left in the kernel's result (`V'`) and the rest is as it was. -/
theorem wp_region (hout : ∀ c, V' c main_v3 = mlpOf V c) (hne : ∀ c (b : Ref sig .tc), b ≠ main_v3 → V' c b = V c b) (c : Dev nD)
    [∀ e, Nonempty (Elt F e)] (Q : PUnit.{1} → sProp 𝕄) :
    iprop((iprop(boundary (c : Thread nD τ) ∗ unscopedBufs c (V' c) ∗ owesLow c) -∗ Q ⟨⟩)
        ∗ boundary (c : Thread nD τ) ∗ (unscopedBufs c (V c) ∗ owesLow c) ∗ levAts (K (F := F)).L (K (F := F)).lev ∗ regionGhost adm c)
      ⊢ wp frame (wpE ((K (F := F)).defs (D (F := F))) 𝒱 (c : Thread nD τ) none) Set.univ
          (Prog.lift (.customCall (SparseCore.inner (Pipeline.entry 0)) ())) Q :=
  wp_call V adm (reg V adm V' hout hne) c Q

end Cert.Proof.KernelIdeal

end
-- ==== Proof.KernelIdeal.Launch.lean ====
/-
  What passes between the cores at the SparseCore call: every tile is handed its indices, its share of the table and its part of the
  output, and hands them back with the part computed; a SparseCore is handed what its 16 tiles are.
-/
module

public import proofs.«01_k».proof.Proof.KernelIdeal.Tile
public import proofs.«01_k».proof.Proof.KernelIdeal.RegionRun

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem nCore_zero : (K (F := F)).nCore 0 = 2 := rfl
theorem nSub_zero : (K (F := F)).nSub 0 = 16 := rfl

/-- The tile on subcore `i` of the call's SparseCore `c`. -/
abbrev tileNo (c : Fin ((K (F := F)).nCore 0)) (i : Fin ((K (F := F)).nSub 0)) : Fin 32 :=
  wid (Fin.cast nCore_zero c) (Fin.cast nSub_zero i)

section Payload

variable (X : (d : Dev nD) → Buf (Elt F) (xLoc d)) (Tb : (d : Dev nD) → Buf (Elt F) (tLoc d))

/-- What the call passes, the indices at `X` and the table at `Tb`. -/
def P : (K (F := F)).Pay (nD := nD) (Val := Elt F) (Name := ℕ) (U := UU) where
  st := fun q d c => match q with | 0 => bigSep Finset.univ fun i : Fin ((K (F := F)).nSub 0) => tileIn d (X d) (Tb d) (tileNo c i)
  dn := fun q d c => match q with | 0 => bigSep Finset.univ fun i : Fin ((K (F := F)).nSub 0) => tileBack d (X d) (Tb d) (tileNo c i)
  go := fun q d c i => match q with | 0 => tileIn d (X d) (Tb d) (tileNo c i)
  td := fun q d c i => match q with | 0 => tileBack d (X d) (Tb d) (tileNo c i)
  x := fun _ _ => iprop(emp)

instance P_storable : (P X Tb).IsStorable where
  st q d c := match q with
    | 0 => (inferInstance : BI.Storable (upEmb : UEmb _ 𝕄) (bigSep Finset.univ fun i : Fin ((K (F := F)).nSub 0) => tileIn d (X d) (Tb d) (tileNo c i)))
  dn q d c := match q with
    | 0 => (inferInstance : BI.Storable (upEmb : UEmb _ 𝕄) (bigSep Finset.univ fun i : Fin ((K (F := F)).nSub 0) => tileBack d (X d) (Tb d) (tileNo c i)))
  go q d c i := match q with | 0 => (inferInstance : BI.Storable (upEmb : UEmb _ 𝕄) (tileIn d (X d) (Tb d) (tileNo c i)))
  td q d c i := match q with | 0 => (inferInstance : BI.Storable (upEmb : UEmb _ 𝕄) (tileBack d (X d) (Tb d) (tileNo c i)))

/-- The grid point of subcore `s` on SparseCore `c`. -/
def point (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1__sc_gather (point c s)
          xV (Memref.isWhole_whole _) tV (Memref.isWhole_whole _) oV (Memref.isWhole_whole _)
          sX (Memref.isWhole_whole _) sT (Memref.isWhole_whole _) sO (Memref.isWhole_whole _) cc1_scoped0 cc1_scoped1 cc1_scoped2) ⟨⟩ c s := rfl

set_option maxRecDepth 1024 in
/-- Every tile's task runs from what it is handed to what it hands back, when every index names a row of the table. -/
theorem tileObl (hX : ∀ d, InRange (X d)) (hF : (K (F := F)).Facts) : (K (F := F)).TileObl (D (F := F)) 𝒱 (P X Tb) v₀ 0 := by
  intro d c i O W hO _ _
  simp only [show (P X Tb).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact tile_body d (point ⟨_, hci.1⟩ ⟨_, hci.2⟩) (X d) (Tb d) (hX d) hF O W hO

/-- A SparseCore's tiles are handed what it was, and it hands back what they do. -/
theorem vecSplit : (K (F := F)).VecSplit' (P X Tb) 0 := by
  intro d c
  show (bigSep Finset.univ fun i : Fin ((K (F := F)).nSub 0) => tileIn d (X d) (Tb d) (tileNo c i)) ⊢ |={Set.univ}=> iprop(
      (bigSep Finset.univ fun i : Fin ((K (F := F)).nSub 0) => tileIn d (X d) (Tb d) (tileNo c i))
      ∗ ((bigSep Finset.univ fun i : Fin ((K (F := F)).nSub 0) => tileBack d (X d) (Tb d) (tileNo c i))
          -∗ bigSep Finset.univ fun i : Fin ((K (F := F)).nSub 0) => tileBack d (X d) (Tb d) (tileNo c i)))
  iintro H; imodintro
  isplitl [H]; · iexact H
  iintro H; iexact H

omit [FloatOps F] in
/-- A tile's pieces, its part of the output at anything, are what it is handed. -/
theorem tileIn_of (d : Dev nD) (X : Buf (Elt F) (xLoc d)) (T : Buf (Elt F) (tLoc d)) (f : Buf (Elt F) (oLoc d)) (w : Fin 32) :
    (iprop((xLoc d ↦[xSet w]{fullShare} X) ∗ (tLoc d ↦{tShare w} T) ∗ oLoc d ↦[oSet w]{fullShare} f) : sProp 𝕄) ⊢ tileIn d X T w := by
  unfold tileIn
  iintro ⟨Hx, Ht, Ho⟩
  isplitl [Hx]; · iexact Hx
  isplitl [Ht]; · iexact Ht
  iexists f; iexact Ho

/-- The call takes the three arrays whole, the output at anything. -/
theorem st_whole (d : Dev nD) (f : Buf (Elt F) (oLoc d)) :
    iprop((xLoc d ↦{fullShare} X d) ∗ (tLoc d ↦{fullShare} Tb d) ∗ oLoc d ↦{fullShare} f)
      ⊢ (bigSep Finset.univ fun c : Fin ((K (F := F)).nCore 0) => (P X Tb).st 0 d c : sProp 𝕄) := by
  have hs : (bigSep Finset.univ fun c : Fin ((K (F := F)).nCore 0) => (P X Tb).st 0 d c : sProp 𝕄)
      = bigSep Finset.univ fun w : Fin 32 => tileIn d (X d) (Tb d) w := bigSep_tiles fun w => tileIn d (X d) (Tb d) w
  rw [hs, xPts_tiles, tPts_tiles, oPts_tiles, ← bigSep_sep', ← bigSep_sep']
  exact bigSep_mono fun w _ => tileIn_of d (X d) (Tb d) f w

/-- It gives them back whole, the output computed. -/
theorem dn_whole (d : Dev nD) :
    (bigSep Finset.univ fun c : Fin ((K (F := F)).nCore 0) => (P X Tb).dn 0 d c : sProp 𝕄)
      = iprop((xLoc d ↦{fullShare} X d) ∗ (tLoc d ↦{fullShare} Tb d) ∗ oLoc d ↦{fullShare} (gath (X d) (Tb d) : Buf (Elt F) (oLoc d))) := by
  have hs : (bigSep Finset.univ fun c : Fin ((K (F := F)).nCore 0) => (P X Tb).dn 0 d c : sProp 𝕄)
      = bigSep Finset.univ fun w : Fin 32 => tileBack d (X d) (Tb d) w := bigSep_tiles fun w => tileBack d (X d) (Tb d) w
  rw [hs, xPts_tiles, tPts_tiles, oPts_tiles, ← bigSep_sep', ← bigSep_sep']
  rfl

end Payload

/-! ## The state the launch begins with -/

/-- The pipeline reads no table before its grid is known. -/
abbrev adm : (p : Fin 1) → (pcfgs (F := F) p).Adm := fun p => (cfgs p).toPCfg_adm

/-- The handshakes' rounds, the pipeline's, no transfer begun. -/
def u₀ : UU := (initOf (K (F := F)).hsCells (K (F := F)).hsToks,
  (initOf (Pipeline.cells (Pipeline.pin (pcfgs (F := F)) adm) (cells_inj adm)) (Pipeline.launchToks (Pipeline.pin (pcfgs (F := F)) adm) (cells_inj adm)), 1))

omit [FloatOps F] in
/-- The pipeline's part of the state beside the handshakes' is the pipeline's own. -/
theorem own_EP (a : UP) (b : Counters) :
    (BI.own ((embR : Emb (UP × Counters) 𝕄) (a, b)) : sProp 𝕄) ⊢ BI.own ((EP : Emb UP 𝕄) a) := by
  unfold EP
  exact (own_pair_emb _ a b).trans sep_elim_left

omit [FloatOps F] in
theorem one_pipeline (Φ : Dev nD → Fin 1 → sProp 𝕄) :
    (bigSep Finset.univ fun d => bigSep Finset.univ fun p => Φ d p) = bigSep Finset.univ fun d => Φ d 0 :=
  bigSep_congr fun _ _ => bigSep_univ_of_subsingleton (0 : Fin 1)

/-- The launch's state funds the handshakes and the pipeline's region. -/
theorem hu₀ (X : (d : Dev nD) → Buf (Elt F) (xLoc d)) (Tb : (d : Dev nD) → Buf (Elt F) (tLoc d)) : (ownU (u₀ (F := F)) : sProp 𝕄)
    ⊢ |={Set.univ}=> iprop(BI.own (EH (initOf (K (F := F)).hsCells (K (F := F)).hsToks)) ∗ (bigSep Finset.univ fun d : Dev nD => regionGhost (F := F) adm d)
        ∗ bigSep Finset.univ fun thr : Thread nD τ => bigSep Finset.univ fun q : Fin 1 => (P X Tb).x q thr) := by
  unfold u₀
  iintro Hu
  ihave H := (ownU_pair _ _) $$ Hu
  icases H with ⟨HH, HP⟩
  ihave HP := (own_EP _ _) $$ HP
  ihave H := (Pipeline.fund_ghost (Pipeline.pin (pcfgs (F := F)) adm) EP (cells_inj adm)) $$ HP
  imod H with ⟨Hc, Ht⟩
  imodintro
  isplitl [HH]; · iexact HH
  isplitl [Hc Ht]
  · rw [bigSep_sep']
    isplitl [Hc]
    · rw [← one_pipeline (F := F) fun d p => Pipeline.cellsGhost (Pipeline.pin (pcfgs (F := F)) adm) EP p d]; iexact Hc
    · rw [← one_pipeline (F := F) fun d p => Pipeline.toksInit (Pipeline.pin (pcfgs (F := F)) adm) EP p d]; iexact Ht
  rw [show (bigSep Finset.univ fun thr : Thread nD τ => bigSep Finset.univ fun q : Fin 1 => (P X Tb).x q thr) = (iprop(emp) : sProp 𝕄) from
    (bigSep_congr fun _ _ => bigSep_emp_const _).trans (bigSep_emp_const _)]
  iempintro

end Cert.Proof.KernelIdeal

end
-- ==== Proof.KernelIdeal.Main.lean ====
/-
  `main`: three reshapes, the TensorCore kernel, a reshape, the SparseCore call, a reshape. The arrays' contents after each, the run, and what
  it leaves: the result at the gathered rows of the processed table, the arguments unchanged, every semaphore at zero.
-/
module

public import proofs.«01_k».proof.Proof.KernelIdeal.Launch
public import Idealize.ShloMosaic.Lib.Pipeline.Frame

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)

variable {F : FTy → Type} [FloatOps F]

local notation "𝕄" => MT nD τ sig (HIx 1) (Elt F) ℕ UU ℕ

/-! ## The host's operations -/

abbrev r0 : HloOp τ sig (Elt F) := StableHlo.reshape main_arg3 main_v0 rfl shapeCasts_S10_S1x10
abbrev r1 : HloOp τ sig (Elt F) := StableHlo.reshape main_arg5 main_v1 rfl shapeCasts_S10_S1x10
abbrev r2 : HloOp τ sig (Elt F) := StableHlo.reshape main_arg7 main_v2 rfl shapeCasts_S4_S1x4
abbrev r3 : HloOp τ sig (Elt F) := StableHlo.reshape main_v3 main_v4 rfl shapeCasts_S64x4_S256
abbrev r4 : HloOp τ sig (Elt F) := StableHlo.reshape main_v5 main_v6 rfl shapeCasts_S65536_S16384x4

/-- The TensorCore's arrays. -/
abbrev arrs : Finset (DevRef τ sig) := Pipeline.ucRefs τ sig

theorem r0_sub : (r0 (F := F)).bufs ⊆ arrs := Pipeline.sub_ucRefs _ (StableHlo.reshape_bufs_sub ..)
theorem r1_sub : (r1 (F := F)).bufs ⊆ arrs := Pipeline.sub_ucRefs _ (StableHlo.reshape_bufs_sub ..)
theorem r2_sub : (r2 (F := F)).bufs ⊆ arrs := Pipeline.sub_ucRefs _ (StableHlo.reshape_bufs_sub ..)
theorem r3_sub : (r3 (F := F)).bufs ⊆ arrs := Pipeline.sub_ucRefs _ (StableHlo.reshape_bufs_sub ..)
theorem r4_sub : (r4 (F := F)).bufs ⊆ arrs := Pipeline.sub_ucRefs _ (StableHlo.reshape_bufs_sub ..)

/-! ## The arrays' contents along `main` -/

section Contents

variable (m : (ℓ : Loc nD τ sig) → Buf (Elt F) ℓ) (d : Dev nD)

/-- At launch. -/
def A0 : Valuation τ sig (Elt F) := fun b => m (d, b)
/-- The biases reshaped. -/
def A3 : Valuation τ sig (Elt F) := (r2 (F := F)).result ((r1 (F := F)).result ((r0 (F := F)).result (A0 m d)))
/-- What the TensorCore kernel finds. -/
def V3 : (c : Dev nD) → (b : Ref sig .tc) → Buf (Elt F) ((c : Thread nD τ).loc b) := fun c b => A3 m c b
/-- The table processed. -/
def A4 : Valuation τ sig (Elt F) := Function.update (A3 m d) (Proc.devRef .tc main_v3) (mlpOf (V3 m) d)
def V4 : (c : Dev nD) → (b : Ref sig .tc) → Buf (Elt F) ((c : Thread nD τ).loc b) := fun c b => A4 m c b
/-- The processed table flat. -/
def A5 : Valuation τ sig (Elt F) := (r3 (F := F)).result (A4 m d)
/-- The table the tiles look up in. -/
def Tab : Buf (Elt F) (tLoc d) := A5 m d (Proc.devRef .tc main_v4)
/-- What the tiles leave. -/
def outFlat : Buf (Elt F) (oLoc d) := (gath (m (xLoc d)) (Tab m d) : S65536.Idx → F .f32)
/-- The rows gathered. -/
def A6 : Valuation τ sig (Elt F) := Function.update (A5 m d) (Proc.devRef .tc main_v5) (outFlat m d)
/-- At the end. -/
def A7 : Valuation τ sig (Elt F) := (r4 (F := F)).result (A6 m d)

/-- The processed table, of the arguments: the kernel's expression at the table, the three weights and the three biases as rows. -/
def mlpArgs : S64x4.Idx → F .f32 :=
  k0_pay1 (m ((d : Thread nD τ).loc main_arg1)) (m ((d : Thread nD τ).loc main_arg2))
    (shapeCast S1x10 (m ((d : Thread nD τ).loc main_arg3)) shapeCasts_S10_S1x10) (m ((d : Thread nD τ).loc main_arg4))
    (shapeCast S1x10 (m ((d : Thread nD τ).loc main_arg5)) shapeCasts_S10_S1x10) (m ((d : Thread nD τ).loc main_arg6))
    (shapeCast S1x4 (m ((d : Thread nD τ).loc main_arg7)) shapeCasts_S4_S1x4)

/-- The program's result, of the arguments. -/
def outOf : S16384x4.Idx → F .f32 :=
  shapeCast S16384x4 (gath (m (xLoc d)) (shapeCast S256 (mlpArgs m d) shapeCasts_S64x4_S256)) shapeCasts_S65536_S16384x4

/-- The three reshapes leave every array but their results as it was. -/
theorem A3_ne (b : Ref sig .tc) (h0 : b ≠ main_v0) (h1 : b ≠ main_v1) (h2 : b ≠ main_v2) :
    A3 m d (Proc.devRef .tc b) = m (d, Proc.devRef .tc b) := by
  unfold A3
  rw [StableHlo.reshape_result_ne _ _ _ _ _ _ _ h2, StableHlo.reshape_result_ne _ _ _ _ _ _ _ h1, StableHlo.reshape_result_ne _ _ _ _ _ _ _ h0]
  rfl

theorem A3_v0 : A3 m d (Proc.devRef .tc main_v0) = shapeCast S1x10 (m ((d : Thread nD τ).loc main_arg3)) shapeCasts_S10_S1x10 := by
  unfold A3
  rw [StableHlo.reshape_result_ne, StableHlo.reshape_result_ne, StableHlo.reshape_result]
  · rfl
  all_goals decide
theorem A3_v1 : A3 m d (Proc.devRef .tc main_v1) = shapeCast S1x10 (m ((d : Thread nD τ).loc main_arg5)) shapeCasts_S10_S1x10 := by
  unfold A3
  rw [StableHlo.reshape_result_ne, StableHlo.reshape_result, StableHlo.reshape_result_ne]
  · rfl
  all_goals decide
theorem A3_v2 : A3 m d (Proc.devRef .tc main_v2) = shapeCast S1x4 (m ((d : Thread nD τ).loc main_arg7)) shapeCasts_S4_S1x4 := by
  unfold A3
  rw [StableHlo.reshape_result, StableHlo.reshape_result_ne, StableHlo.reshape_result_ne]
  · rfl
  all_goals decide

/-- The table the TensorCore kernel leaves is the processed table of the arguments. -/
theorem mlp_args : mlpOf (V3 m) d = mlpArgs m d := by
  unfold mlpOf V3 mlpArgs
  rw [A3_v0, A3_v1, A3_v2, A3_ne m d main_arg1 (by decide) (by decide) (by decide), A3_ne m d main_arg2 (by decide) (by decide) (by decide),
    A3_ne m d main_arg4 (by decide) (by decide) (by decide), A3_ne m d main_arg6 (by decide) (by decide) (by decide)]

theorem A4_v3 : A4 m d (Proc.devRef .tc main_v3) = mlpArgs m d := (Function.update_self _ _ _).trans (mlp_args m d)

theorem Tab_eq : Tab m d = (shapeCast S256 (mlpArgs m d) shapeCasts_S64x4_S256 : S256.Idx → F .f32) := by
  unfold Tab A5
  rw [StableHlo.reshape_result, A4_v3]
  rfl

/-- The result at the end. -/
theorem A7_v6 : A7 m d (Proc.devRef .tc main_v6) = outOf m d := by
  unfold A7
  rw [StableHlo.reshape_result, show A6 m d (Proc.devRef .tc main_v5) = outFlat m d from Function.update_self _ _ _]
  unfold outFlat outOf
  rw [Tab_eq]
  rfl

theorem A5_ne (b : Ref sig .tc) (h0 : b ≠ main_v0) (h1 : b ≠ main_v1) (h2 : b ≠ main_v2) (h3 : b ≠ main_v3) (h4 : b ≠ main_v4) :
    A5 m d (Proc.devRef .tc b) = m (d, Proc.devRef .tc b) := by
  unfold A5
  rw [StableHlo.reshape_result_ne _ _ _ _ _ _ _ h4]
  exact (Function.update_of_ne (StableHlo.devRef_ne_of_ne h3) _ _).trans (A3_ne m d b h0 h1 h2)

/-- An array no operation writes is as it was at launch. -/
theorem A7_ne (b : Ref sig .tc) (h0 : b ≠ main_v0) (h1 : b ≠ main_v1) (h2 : b ≠ main_v2) (h3 : b ≠ main_v3) (h4 : b ≠ main_v4) (h5 : b ≠ main_v5)
    (h6 : b ≠ main_v6) : A7 m d (Proc.devRef .tc b) = m (d, Proc.devRef .tc b) := by
  unfold A7
  rw [StableHlo.reshape_result_ne _ _ _ _ _ _ _ h6]
  exact (Function.update_of_ne (StableHlo.devRef_ne_of_ne h5) _ _).trans (A5_ne m d b h0 h1 h2 h3 h4)

/-! ## The arrays the call takes -/

/-- The three arrays the SparseCore call names. -/
abbrev callRefs : Finset (DevRef τ sig) := {Proc.devRef .tc main_arg0, Proc.devRef .tc main_v4, Proc.devRef .tc main_v5}
theorem callRefs_sub : callRefs ⊆ arrs := by decide

omit [FloatOps F] in
theorem held_callRefs (W : Valuation τ sig (Elt F)) :
    (held (T d) callRefs W : sProp 𝕄)
      = iprop((xLoc d ↦{fullShare} W (Proc.devRef .tc main_arg0)) ∗ (tLoc d ↦{fullShare} W (Proc.devRef .tc main_v4))
          ∗ oLoc d ↦{fullShare} W (Proc.devRef .tc main_v5)) := by
  unfold held callRefs
  rw [SparseCore.bigSep_insert' (by decide), SparseCore.bigSep_insert' (by decide), bigSep_singleton]

/-- Before the call: the three arrays it names, and the rest. -/
theorem held_A5 : (held (T d) arrs (A5 m d) : sProp 𝕄)
    = iprop(((xLoc d ↦{fullShare} m (xLoc d)) ∗ (tLoc d ↦{fullShare} Tab m d) ∗ oLoc d ↦{fullShare} A5 m d (Proc.devRef .tc main_v5))
        ∗ held (T d) (arrs \ callRefs) (A5 m d)) := by
  rw [held_sub_split (T d) callRefs_sub, held_callRefs, A5_ne m d main_arg0 (by decide) (by decide) (by decide) (by decide) (by decide)]
  rfl

/-- After it: the output's array computed, the rest as before. -/
theorem held_A6 : (held (T d) arrs (A6 m d) : sProp 𝕄)
    = iprop(((xLoc d ↦{fullShare} m (xLoc d)) ∗ (tLoc d ↦{fullShare} Tab m d) ∗ oLoc d ↦{fullShare} outFlat m d)
        ∗ held (T d) (arrs \ callRefs) (A5 m d)) := by
  rw [held_sub_split (T d) callRefs_sub, held_callRefs]
  rw [show A6 m d (Proc.devRef .tc main_arg0) = m (xLoc d) from
      (Function.update_of_ne (StableHlo.devRef_ne_of_ne (by decide)) _ _).trans
        (A5_ne m d main_arg0 (by decide) (by decide) (by decide) (by decide) (by decide)),
    show A6 m d (Proc.devRef .tc main_v4) = Tab m d from Function.update_of_ne (StableHlo.devRef_ne_of_ne (by decide)) _ _,
    show A6 m d (Proc.devRef .tc main_v5) = outFlat m d from Function.update_self _ _ _,
    held_congr (T d) (S := arrs \ callRefs) (V := A6 m d) (V' := A5 m d) fun b hb => Function.update_of_ne (fun h => by
      subst h; exact (Finset.mem_sdiff.mp hb).2 (by decide)) _ _]

end Contents

/-! ## The run -/

section Run

variable (m : (ℓ : Loc nD τ sig) → Buf (Elt F) ℓ) (ρ : Dev nD → PrngReg)

/-- The arrays the claims read: the arguments and the result. -/
abbrev finRefs : Finset (DevRef τ sig) :=
  {Proc.devRef .tc main_arg0, Proc.devRef .tc main_arg1, Proc.devRef .tc main_arg2, Proc.devRef .tc main_arg3, Proc.devRef .tc main_arg4,
    Proc.devRef .tc main_arg5, Proc.devRef .tc main_arg6, Proc.devRef .tc main_arg7, Proc.devRef .tc main_v6}
theorem finRefs_sub : finRefs ⊆ arrs := by decide

/-- What `main` leaves of them. -/
abbrev FIN (d : Dev nD) : sProp 𝕄 := held (T d) finRefs (A7 m d)

/-- What the call passes at the launch memory. -/
abbrev PP : (K (F := F)).Pay (nD := nD) (Val := Elt F) (Name := ℕ) (U := UU) := P (fun d => m (xLoc d)) (Tab m)

/-- The arrays at launch. -/
theorem held_A0 (d : Dev nD) : (unscopedBufs d (fun b => m ((SparseCore.T d).loc b)) : sProp 𝕄) = held (T d) arrs (A0 m d) :=
  Pipeline.unscopedBufs_held d (A0 m d)

/-- The TensorCore kernel's call, the arrays held. -/
theorem wp_kernel [∀ e, Nonempty (Elt F e)] (d : Dev nD) (Q : PUnit.{1} → sProp 𝕄) :
    iprop((iprop(boundary (T d) ∗ held (T d) arrs (A4 m d) ∗ owesLow (F := F) d) -∗ Q ⟨⟩)
        ∗ boundary (T d) ∗ (held (T d) arrs (A3 m d) ∗ owesLow (F := F) d) ∗ levAts (K (F := F)).L (K (F := F)).lev ∗ regionGhost (F := F) adm d)
      ⊢ wp frame (wpE ((K (F := F)).defs (D (F := F))) 𝒱 (T d) none) Set.univ
          (Prog.lift (.customCall (SparseCore.inner (Pipeline.entry 0)) ())) Q := by
  have h := wp_region (V3 m) (V4 m) adm
    (fun c => show A4 m c (Proc.devRef .tc main_v3) = _ from Function.update_self _ _ _)
    (fun c b hb => show A4 m c (Proc.devRef .tc b) = A3 m c (Proc.devRef .tc b) from Function.update_of_ne (StableHlo.devRef_ne_of_ne hb) _ _) d Q
  rw [show (unscopedBufs d (V3 m d) : sProp 𝕄) = held (T d) arrs (A3 m d) from Pipeline.unscopedBufs_held d (A3 m d),
    show (unscopedBufs d (V4 m d) : sProp 𝕄) = held (T d) arrs (A4 m d) from Pipeline.unscopedBufs_held d (A4 m d)] at h
  exact h

/-- The core's handshake state before the call, but for what it owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))
theorem tcSt_low (d : Dev nD) : ((K (F := F)).tcSt EH d 0 : sProp 𝕄) = iprop(owesLow (F := F) d ∗ tcRest (F := F) d) := rfl

/-- `main` on one device's TensorCore: from the launch's arrays to the arguments as they were and the result computed. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ regionGhost (F := F) adm d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [held_A0]
  simp only [main, wp_bind, wp_pure]
  iintro ⟨#Hctx, Hst, ⟨Hb, Hheld, Hts, -⟩, Hg⟩
  ihave #Hlev := (SparseCore.Cfg.ctx_levAts κ) $$ Hctx
  iapply (wp_hlo_within 𝒱 (SparseCore.T d) none Set.univ (op := r0) (S := arrs) r0_sub (V := A0 m d)) $$ [Hb Hheld]
  · isplitl [Hb] <;> iassumption
  iintro ⟨Hb, Hheld⟩
  rw [wp_ret]; imodintro
  iapply (wp_hlo_within 𝒱 (SparseCore.T d) none Set.univ (op := r1) (S := arrs) r1_sub (V := (r0 (F := F)).result (A0 m d))) $$ [Hb Hheld]
  · isplitl [Hb] <;> iassumption
  iintro ⟨Hb, Hheld⟩
  rw [wp_ret]; imodintro
  iapply (wp_hlo_within 𝒱 (SparseCore.T d) none Set.univ (op := r2) (S := arrs) r2_sub
    (V := (r1 (F := F)).result ((r0 (F := F)).result (A0 m d)))) $$ [Hb Hheld]
  · isplitl [Hb] <;> iassumption
  iintro ⟨Hb, Hheld⟩
  rw [wp_ret]; imodintro
  ihave Hst := (Entails.of_eq (tcSt_low (F := F) d)) $$ Hst
  icases Hst with ⟨HO, Hst⟩
  iapply (wp_kernel m d _)
  isplitr [Hb Hheld HO Hg]
  rotate_left
  · isplitl [Hb]; · iexact Hb
    isplitl [Hheld HO]
    · isplitl [Hheld]; · iexact Hheld
      iexact HO
    isplitr; · iexact Hlev
    iexact Hg
  iintro ⟨Hb, Hheld, HO⟩
  iapply (wp_hlo_within 𝒱 (SparseCore.T d) none Set.univ (op := r3) (S := arrs) r3_sub (V := A4 m d)) $$ [Hb Hheld]
  · isplitl [Hb] <;> iassumption
  iintro ⟨Hb, Hheld⟩
  rw [wp_ret]; imodintro
  ihave Hh := (Entails.of_eq (show held (T d) arrs ((r3 (F := F)).result (A4 m d)) = _ from held_A5 m d)) $$ Hheld
  icases Hh with ⟨Hcall, Hrest⟩
  iapply ((K (F := F)).wp_run (D (F := F)) 𝒱 (EH := EH) (P := PP m) κ d 0) $$ [HO Hst Hcall Hrest Hb Hts]
  isplitr; · iexact Hctx
  isplitl [HO Hst]
  · iapply (Entails.of_eq (tcSt_low (F := F) d).symm)
    isplitl [HO]; · iexact HO
    iexact Hst
  isplitl [Hcall]
  · iapply (st_whole (fun d => m (xLoc d)) (Tab m) d _); iexact Hcall
  iintro ⟨Hst, Hdn⟩
  ihave Hdn' := (Entails.of_eq (show _ = iprop((xLoc d ↦{fullShare} m (xLoc d)) ∗ (tLoc d ↦{fullShare} Tab m d) ∗ oLoc d ↦{fullShare} outFlat m d)
    from dn_whole (fun d => m (xLoc d)) (Tab m) d)) $$ Hdn
  ihave Hheld := (Entails.of_eq (held_A6 m d).symm) $$ [Hdn' Hrest]
  · isplitl [Hdn']; · iexact Hdn'
    iexact Hrest
  iapply (wp_hlo_within 𝒱 (SparseCore.T d) none Set.univ (op := r4) (S := arrs) r4_sub (V := A6 m d)) $$ [Hb Hheld]
  · isplitl [Hb] <;> iassumption
  iintro ⟨Hb, Hheld⟩
  rw [wp_ret]; imodintro; imodintro
  ihave Hh := (Entails.of_eq (show held (T d) arrs ((r4 (F := F)).result (A6 m d)) = _ from held_sub_split (T d) finRefs_sub (A7 m d))) $$ Hheld
  icases Hh with ⟨Hfin, -⟩
  isplitl [Hst]; · iexact Hst
  isplitl [Hfin]; · iexact Hfin
  isplitl [Hb] <;> iassumption

/-- Arrays held agree with the memory. -/
theorem held_agree (d : Dev nD) (S : Finset (DevRef τ sig)) (W : Valuation τ sig (Elt F)) (s' : Phys nD τ sig (Elt F)) :
    iprop(held (T d) S W ∗ SI s') ⊢ (⌜∀ b, b ∈ S → s'.mem.mem (d, b) = W b⌝ : sProp 𝕄) := by
  refine Entails.trans (forall_intro fun b => ?_) pure_forall.2
  by_cases hb : b ∈ S
  · have h1 : (held (T d) S W : sProp 𝕄) ⊢ (d, b) ↦{fullShare} W b := by
      rw [held_sub_split (T d) (Finset.singleton_subset_iff.mpr hb)]
      unfold held
      rw [bigSep_singleton]
      exact sep_elim_left
    have h2 : iprop(held (T d) S W ∗ SI s') ⊢ (⌜∀ i ∈ Finset.univ, s'.mem.mem (d, b) i = W b i⌝ : sProp 𝕄) := by
      iintro ⟨H, HS⟩
      ihave H1 := h1 $$ H
      iapply (SI_pointsTo_agree (st := s') (ℓ := (d, b)) (I := Finset.univ) (q := fullShare) (f := W b))
      isplitl [HS] <;> iassumption
    exact h2.trans (Laws.pure_mono fun h _ => funext fun i => h i (Finset.mem_univ i))
  · exact BIClass.pure_intro fun h => absurd h hb

/-- What the claims read of a device's final memory. -/
def fq (d : Dev nD) (s' : Phys nD τ sig (Elt F)) : Prop := ∀ b, b ∈ finRefs → s'.mem.mem (d, b) = A7 m d b

/-- What every run ends with: the result computed, the arguments as they were, every semaphore at zero. -/
def Q0 : PUnit × MemSt nD τ sig (Elt F) → Prop := fun r => (∀ c : Dev nD, ∀ b, b ∈ finRefs → r.2.mem (c, b) = A7 m c b) ∧ r.2.sem = fun _ => 0

/-- The program run from any memory whose indices name rows of the table. -/
theorem run_held [∀ e, Nonempty (Elt F e)] (hX : ∀ d, InRange (m (xLoc d))) :
    θ_run (Cert.KernelIdeal.defs (F := F)) (Cert.KernelIdeal.threads (F := F)) ⟨m, fun _ => 0, ρ⟩ (Q0 m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ hX facts)
    (fun q _ => match q with | 0 => SparseCore.Cfg.VecSplit.of_plain (vecSplit _ _))
    m ρ main (fun d => regionGhost (F := F) adm d) (FIN m) (u₀ (F := F)) (sep_elim_left.trans (hu₀ _ _)) (hmain m ρ) (fq m)
    (fun d s' => held_agree d finRefs (A7 m d) s') (Q0 m) (fun _ h hz => ⟨h, hz⟩)

/-- The result is the program's function of the arguments, the arguments are unchanged and every semaphore is at zero. -/
theorem run_main [∀ e, Nonempty (Elt F e)] (hX : ∀ d, InRange (m (xLoc d))) :
    θ_run (Cert.KernelIdeal.defs (F := F)) (Cert.KernelIdeal.threads (F := F)) ⟨m, fun _ => 0, ρ⟩ fun r =>
      (∀ c : Dev nD, r.2.mem (c.tc.loc main_v6) = outOf m c
        ∧ r.2.mem (c.tc.loc main_arg0) = m (c.tc.loc main_arg0) ∧ r.2.mem (c.tc.loc main_arg1) = m (c.tc.loc main_arg1)
        ∧ r.2.mem (c.tc.loc main_arg2) = m (c.tc.loc main_arg2) ∧ r.2.mem (c.tc.loc main_arg3) = m (c.tc.loc main_arg3)
        ∧ r.2.mem (c.tc.loc main_arg4) = m (c.tc.loc main_arg4) ∧ r.2.mem (c.tc.loc main_arg5) = m (c.tc.loc main_arg5)
        ∧ r.2.mem (c.tc.loc main_arg6) = m (c.tc.loc main_arg6) ∧ r.2.mem (c.tc.loc main_arg7) = m (c.tc.loc main_arg7))
      ∧ r.2.sem = fun _ => 0 := by
  refine (θ_run Cert.KernelIdeal.defs _ _).mono (fun r h => ⟨fun c => ?_, h.2⟩) (run_held m ρ hX)
  have hk := h.1 c
  refine ⟨(hk (Proc.devRef .tc main_v6) (by decide)).trans (A7_v6 m c), ?_, ?_, ?_, ?_, ?_, ?_, ?_, ?_⟩
  · exact (hk (Proc.devRef .tc main_arg0) (by decide)).trans (A7_ne m c main_arg0 (by decide) (by decide) (by decide) (by decide) (by decide) (by decide) (by decide))
  · exact (hk (Proc.devRef .tc main_arg1) (by decide)).trans (A7_ne m c main_arg1 (by decide) (by decide) (by decide) (by decide) (by decide) (by decide) (by decide))
  · exact (hk (Proc.devRef .tc main_arg2) (by decide)).trans (A7_ne m c main_arg2 (by decide) (by decide) (by decide) (by decide) (by decide) (by decide) (by decide))
  · exact (hk (Proc.devRef .tc main_arg3) (by decide)).trans (A7_ne m c main_arg3 (by decide) (by decide) (by decide) (by decide) (by decide) (by decide) (by decide))
  · exact (hk (Proc.devRef .tc main_arg4) (by decide)).trans (A7_ne m c main_arg4 (by decide) (by decide) (by decide) (by decide) (by decide) (by decide) (by decide))
  · exact (hk (Proc.devRef .tc main_arg5) (by decide)).trans (A7_ne m c main_arg5 (by decide) (by decide) (by decide) (by decide) (by decide) (by decide) (by decide))
  · exact (hk (Proc.devRef .tc main_arg6) (by decide)).trans (A7_ne m c main_arg6 (by decide) (by decide) (by decide) (by decide) (by decide) (by decide) (by decide))
  · exact (hk (Proc.devRef .tc main_arg7) (by decide)).trans (A7_ne m c main_arg7 (by decide) (by decide) (by decide) (by decide) (by decide) (by decide) (by decide))

end Run

end Cert.Proof.KernelIdeal

end
-- ==== Proof.Net.lean ====
/-
  The network on one row of the table, over the extended reals: two hidden layers with an activation after each, and an output layer. It names
  neither program; each of the two is shown elsewhere to compute this function row by row.
-/
module

public import Idealize.ShloMosaic.Lib.Pointwise

@[expose] public section

noncomputable section

namespace Cert.Proof.Net

open Idealize.ShloMosaic

/-- The activation: half of `y`, times one plus the error function of `y` over the square root of two. -/
def act (y : Ideal .f32) : Ideal .f32 :=
  Ideal.ofBits .f32 0x3F000000#32 * y * (1 + Ideal.erf (y * Ideal.ofBits .f32 0x3F3504F3#32))

/-- The same activation through the complementary error function of the negated argument. -/
theorem act_erfc (y : Ideal .f32) :
    Ideal.ofBits .f32 0x3F000000#32 * y * Ideal.erfc (-y * Ideal.ofBits .f32 0x3F3504F3#32) = act y := by
  unfold act
  rw [EReal.neg_mul, Ideal.erfc_neg]

/-- One layer before its activation: output `q` is the row times column `q` of the weights, plus the bias. -/
def layer {K N : ℕ} (e : Fin K → Ideal .f32) (w : FVec Ideal ⟨2, ![K, N]⟩ .f32) (b : FVec Ideal ⟨1, ![N]⟩ .f32) (q : Fin N) : Ideal .f32 :=
  ∑ k : Fin K, e k * w (ix2 k q) + b (ix1 q)

/-- The whole network on one row `e`. -/
def net (e : Fin 4 → Ideal .f32) (w1 : FVec Ideal ⟨2, ![4, 10]⟩ .f32) (b1 : FVec Ideal ⟨1, ![10]⟩ .f32)
    (w2 : FVec Ideal ⟨2, ![10, 10]⟩ .f32) (b2 : FVec Ideal ⟨1, ![10]⟩ .f32) (w3 : FVec Ideal ⟨2, ![10, 4]⟩ .f32)
    (b3 : FVec Ideal ⟨1, ![4]⟩ .f32) : Fin 4 → Ideal .f32 :=
  layer (fun q => act (layer (fun q => act (layer e w1 b1 q)) w2 b2 q)) w3 b3

end Cert.Proof.Net

end
-- ==== Proof.KernelIdeal.Value.lean ====
/-
  What the kernel's result holds over the extended reals: the processed table read at a row is the network on that row, and the result read at
  a position is the processed table at the row the index word names.
-/
module

public import proofs.«01_k».proof.Proof.KernelIdeal.Main
public import proofs.«01_k».proof.Proof.Net

@[expose] public section

set_option maxRecDepth 16384

noncomputable section

namespace Cert.Proof.KernelIdeal

open Cert.KernelIdeal Cert.KernelIdeal.Gen
open Idealize.ShloMosaic Idealize.ShloMosaic.TcCoe
open Cert.Proof.Net

/-! ## The layers over the whole table -/

/-- The hidden activation on the whole table. -/
def acts (h : FVec Ideal S64x10 .f32) : FVec Ideal S64x10 .f32 :=
  mulf (mulf (broadcast S64x10 (Scalar.ofBits .f32 0x3F000000#32 : Ideal .f32)) h)
    (addf (broadcast S64x10 (Scalar.ofBits .f32 0x3F800000#32 : Ideal .f32))
      (erf (mulf h (broadcast S64x10 (Scalar.ofBits .f32 0x3F3504F3#32 : Ideal .f32)))))

/-- The first hidden layer on the whole table. -/
def first (e : FVec Ideal S64x4 .f32) (w : FVec Ideal S4x10 .f32) (b : FVec Ideal S10 .f32) : FVec Ideal S64x10 .f32 :=
  addf (matmul dot_S64x4_S4x10_S64x10_1_0_0_1_n_n none e w (constant S64x10 .f32 0x00000000#32))
    (broadcastTo S64x10 (shapeCast S1x10 (shapeCast S1x10 b shapeCasts_S10_S1x10) shapeCasts_S1x10_S1x10) broadcasts_S1x10_S64x10)

/-- The second hidden layer on the whole table. -/
def second (e : FVec Ideal S64x10 .f32) (w : FVec Ideal S10x10 .f32) (b : FVec Ideal S10 .f32) : FVec Ideal S64x10 .f32 :=
  addf (matmul dot_S64x10_S10x10_S64x10_1_0_0_1_n_n none e w (constant S64x10 .f32 0x00000000#32))
    (broadcastTo S64x10 (shapeCast S1x10 (shapeCast S1x10 b shapeCasts_S10_S1x10) shapeCasts_S1x10_S1x10) broadcasts_S1x10_S64x10)

/-- The output layer on the whole table. -/
def third (e : FVec Ideal S64x10 .f32) (w : FVec Ideal S10x4 .f32) (b : FVec Ideal S4 .f32) : FVec Ideal S64x4 .f32 :=
  addf (matmul dot_S64x10_S10x4_S64x4_1_0_0_1_n_n none e w (constant S64x4 .f32 0x00000000#32))
    (broadcastTo S64x4 (shapeCast S1x4 (shapeCast S1x4 b shapeCasts_S4_S1x4) shapeCasts_S1x4_S1x4) broadcasts_S1x4_S64x4)

theorem acts_at (h : FVec Ideal S64x10 .f32) (r : Fin 64) (q : Fin 10) : acts h (ix2 r q) = act (h (ix2 r q)) := by
  pointwise [acts]
  rfl

theorem first_at (e : FVec Ideal S64x4 .f32) (w : FVec Ideal S4x10 .f32) (b : FVec Ideal S10 .f32) (r : Fin 64) (q : Fin 10) :
    first e w b (ix2 r q) = layer (fun p => e (ix2 r p)) w b q := by
  pointwise [first]
  rfl

theorem second_at (e : FVec Ideal S64x10 .f32) (w : FVec Ideal S10x10 .f32) (b : FVec Ideal S10 .f32) (r : Fin 64) (q : Fin 10) :
    second e w b (ix2 r q) = layer (fun p => e (ix2 r p)) w b q := by
  pointwise [second]
  rfl

theorem third_at (e : FVec Ideal S64x10 .f32) (w : FVec Ideal S10x4 .f32) (b : FVec Ideal S4 .f32) (r : Fin 64) (q : Fin 4) :
    third e w b (ix2 r q) = layer (fun p => e (ix2 r p)) w b q := by
  pointwise [third]
  rfl

/-- The three layers on the whole table, read at row `r`: the network on row `r`. -/
theorem layers_at (e : FVec Ideal S64x4 .f32) (w1 : FVec Ideal S4x10 .f32) (b1 : FVec Ideal S10 .f32) (w2 : FVec Ideal S10x10 .f32)
    (b2 : FVec Ideal S10 .f32) (w3 : FVec Ideal S10x4 .f32) (b3 : FVec Ideal S4 .f32) (r : Fin 64) (j : Fin 4) :
    third (acts (second (acts (first e w1 b1)) w2 b2)) w3 b3 (ix2 r j) = net (fun p => e (ix2 r p)) w1 b1 w2 b2 w3 b3 j := by
  simp only [third_at, acts_at, second_at, first_at, net]

/-! ## The result -/

variable (m : (ℓ : Loc nD τ sig) → Buf (Elt Ideal) ℓ) (c : Dev nD)

/-- The processed table as the three layers over the table. -/
theorem mlpArgs_eq : mlpArgs m c =
    third (acts (second (acts (first (m (c.tc.loc main_arg1)) (m (c.tc.loc main_arg2)) (m (c.tc.loc main_arg3))))
      (m (c.tc.loc main_arg4)) (m (c.tc.loc main_arg5)))) (m (c.tc.loc main_arg6)) (m (c.tc.loc main_arg7)) := rfl

/-- The gathered rows laid out as a matrix, read at `(i, j)`: entry `j` of the row the index word names. -/
theorem rows_at (x : IVec S16384 32) (t : FVec Ideal S64x4 .f32) (i : Fin 16384) (j : Fin 4) (h : (x (ix1 i)).toNat < 64) :
    shapeCast S16384x4 (gath (F := Ideal) x (shapeCast S256 t shapeCasts_S64x4_S256)) shapeCasts_S65536_S16384x4 (ix2 i j)
      = t (ix2 (⟨(x (ix1 i)).toNat, h⟩ : Fin 64) j) := by
  have hj : j.val < 4 := j.isLt
  have hi : i.val < 16384 := i.isLt
  pointwise
  have hrow : ∀ hk, rowOf (ix1 (⟨i.val * 4 + j.val, hk⟩ : Fin 65536)) = ix1 i := fun hk => by
    funext a
    rw [Fin.eq_zero a]
    exact Fin.ext (show (i.val * 4 + j.val) / 4 = i.val by omega)
  have hcell : ∀ n, (hn : n < 256) → cell n = ix1 (⟨n, hn⟩ : Fin 256) := fun n hn => by
    funext a
    rw [Fin.eq_zero a]
    exact Fin.ext (Nat.mod_eq_of_lt hn)
  show shapeCast S256 t shapeCasts_S64x4_S256 (cell ((x (rowOf (ix1 (⟨i.val * 4 + j.val, _⟩ : Fin 65536)))).toNat * 4 + (i.val * 4 + j.val) % 4)) = _
  rw [hrow, hcell _ (by omega)]
  pointwise
  congr 1
  congr 1 <;> exact Fin.ext (by dsimp only; omega)

/-- The result at `(i, j)` where the index word is below 64: entry `j` of the network on the row it names. -/
theorem outOf_at (i : Fin 16384) (j : Fin 4) (x : IVec S16384 32) (hx : m (xLoc c) = x) (h : (x (ix1 i)).toNat < 64) :
    outOf m c (ix2 i j)
      = net (fun p => (m (c.tc.loc main_arg1) : FVec Ideal S64x4 .f32) (ix2 (⟨(x (ix1 i)).toNat, h⟩ : Fin 64) p))
          (m (c.tc.loc main_arg2)) (m (c.tc.loc main_arg3)) (m (c.tc.loc main_arg4)) (m (c.tc.loc main_arg5)) (m (c.tc.loc main_arg6))
          (m (c.tc.loc main_arg7)) j := by
  subst hx
  unfold outOf
  rw [rows_at _ _ i j h, mlpArgs_eq, layers_at]

end Cert.Proof.KernelIdeal

end
-- ==== Proof.Range.lean ====
/-
  What the range precondition says of the index words, and two facts about the conjunction of a vector of one-bit words.
-/
module

public import proofs.«01_k».proof.Pre_in_range
public import Idealize.ShloMosaic.PureOps.Reduce
public import Idealize.ShloMosaic.Lib.WordCmp

@[expose] public section

noncomputable section

namespace Cert.Proof.Range

open Idealize.ShloMosaic

/-- A conjunction of one-bit words that holds 1 has only 1s in it. -/
theorem all_one_of_and {ι : Type} [DecidableEq ι] (f : ι → BitVec 1) (b : BitVec 1) (s : Finset ι)
    (h : s.fold IntOp.andi b f = 1#1) : ∀ i ∈ s, f i = 1#1 := by
  induction s using Finset.induction_on with
  | empty => exact fun i hi => absurd hi (Finset.notMem_empty i)
  | insert a s ha ih =>
    rw [Finset.fold_insert ha] at h
    have split : ∀ p q : BitVec 1, IntOp.andi p q = 1#1 → p = 1#1 ∧ q = 1#1 := by decide
    obtain ⟨h1, h2⟩ := split _ _ h
    intro i hi
    rcases Finset.mem_insert.mp hi with rfl | hi
    · exact h1
    · exact ih h2 i hi

/-- A conjunction of 1s, started at 1, is 1. -/
theorem and_of_all_one {ι : Type} [DecidableEq ι] (f : ι → BitVec 1) (s : Finset ι) (h : ∀ i ∈ s, f i = 1#1) :
    s.fold IntOp.andi 1#1 f = 1#1 := by
  induction s using Finset.induction_on with
  | empty => rfl
  | insert a s ha ih =>
    rw [Finset.fold_insert ha, h a (Finset.mem_insert_self a s), ih fun i hi => h i (Finset.mem_insert_of_mem hi)]
    rfl

/-- The precondition holds only where every index word, read as a natural number, is below 64. -/
theorem lt_of_pre {F : FTy → Type} [FloatOps F] [Cert.Pre_in_range.Facts]
    (x : IVec Cert.Pre_in_range.S16384 32) (emb : FVec F Cert.Pre_in_range.S64x4 .f32) (w1 : FVec F Cert.Pre_in_range.S4x10 .f32)
    (b1 : FVec F Cert.Pre_in_range.S10 .f32) (w2 : FVec F Cert.Pre_in_range.S10x10 .f32) (b2 : FVec F Cert.Pre_in_range.S10 .f32)
    (w3 : FVec F Cert.Pre_in_range.S10x4 .f32) (b3 : FVec F Cert.Pre_in_range.S4 .f32)
    (h : Cert.Pre_in_range.fn x emb w1 b1 w2 b2 w3 b3 = fun _ => 1#1) (i : Cert.Pre_in_range.S16384.Idx) : (x i).toNat < 64 := by
  have h0 := congrFun h (Shape.Idx.first Cert.Pre_in_range.Facts.h_S_)
  simp only [Cert.Pre_in_range.fn] at h0
  rw [Host.reduce_eq_fold] at h0
  have hi := all_one_of_and _ _ _ h0 i (Finset.mem_filter.mpr ⟨Finset.mem_univ _, funext fun k => k.elim0⟩)
  replace hi : IntOp.andi (IntOp.cmpi .sge (x i) 0#32) (IntOp.cmpi .slt (x i) 64#32) = 1#1 := hi
  have iff : IntOp.andi (IntOp.cmpi .sge (x i) 0#32) (IntOp.cmpi .slt (x i) 64#32) = 1#1 ↔ (x i).toNat < 64 := by word_cmp
  exact iff.mp hi

end Cert.Proof.Range

end
-- ==== Proof.Reference.lean ====
/-
  What the reference computes: it takes a row of the table for every index, then applies the network to the whole array of rows. Its result
  read at a position is the network on the row taken there; and where the index is in range, the row taken is the table's own.
-/
module

public import proofs.«01_k».proof.Proof.Gen.ReferenceIdeal.Run
public import proofs.«01_k».proof.Proof.Net
public import proofs.«01_k».proof.Proof.Range
public import Idealize.ShloMosaic.Lib.Routing.Ops

@[expose] public section

set_option maxRecDepth 16384

noncomputable section

namespace Cert.Proof.Reference

open Cert.ReferenceIdeal Cert.ReferenceIdeal.Gen
open Idealize.ShloMosaic Idealize.ShloMosaic.TcCoe
open Cert.Proof.Net

/-! ## The rows taken -/

/-- The index words as a column, a negative one raised by 64. -/
def words (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 64#32))) x)

/-- For every index word, whether it names a row of the table. -/
def inside (x : IVec S16384 32) : IVec S16384 1 :=
  Host.reduce IntOp.andi
    (andi (cmpi .sge (words x) (broadcastInDim S16384x1 ![] bcast_S_S16384x1 (constantI S_ 32 0#32)))
      (cmpi .sle (words x) (broadcastInDim S16384x1 ![0, 1] bcast_S1x1_S16384x1_0_1
        (broadcastInDim S1x1 ![1] bcast_S1_S1x1_1 (constantI S1 32 63#32)))))
    (constantI S_ 1 1#1) reducesTo_S16384x1_S16384_d1 h_S_

/-- The rows taken: the table's where the index word names one, the filler elsewhere. -/
def taken (x : IVec S16384 32) (emb : FVec Ideal S64x4 .f32) : FVec Ideal S16384x4 .f32 :=
  select (broadcastInDim S16384x4 ![0] bcast_S16384_S16384x4_0 (inside x))
    (Host.gather gather_S64x4_S16384x1_S16384x4_1_0_n_n_0_1_14 emb (words x))
    (broadcastInDim S16384x4 ![] bcast_S_S16384x4 (constant S_ .f32 0x7FC00000#32))

/-- An index word below 64 is kept as it is. -/
theorem words_at (x : IVec S16384 32) (i : Fin 16384) (k : Fin 1) (h : (x (ix1 i)).toNat < 64) : words x (ix2 i k) = x (ix1 i) := by
  pointwise [words]
  rw [WordCmp.cmpi_slt_zero, decide_eq_false (by omega)]
  rfl

/-- An index word below 64 names a row. -/
theorem inside_at (x : IVec S16384 32) (i : Fin 16384) (h : (x (ix1 i)).toNat < 64) : inside x (ix1 i) = 1#1 := by
  unfold inside
  rw [Host.reduce_eq_fold]
  refine Range.and_of_all_one _ _ fun k hk => ?_
  have hk0 : k 0 = i := by
    have := congrFun (Finset.mem_filter.mp hk).2 0
    exact Fin.ext (congrArg Fin.val this)
  have hk' : k = ix2 i (k 1) := by
    funext a
    match a with
    | ⟨0, _⟩ => exact hk0
    | ⟨1, _⟩ => rfl
  have hw : words x k = x (ix1 i) := by rw [hk']; exact words_at x i (k 1) h
  show IntOp.andi (IntOp.cmpi .sge (words x k) 0#32) (IntOp.cmpi .sle (words x k) 63#32) = 1#1
  rw [hw]
  have iff : IntOp.andi (IntOp.cmpi .sge (x (ix1 i)) 0#32) (IntOp.cmpi .sle (x (ix1 i)) 63#32) = 1#1 ↔ (x (ix1 i)).toNat < 64 := by
    word_cmp
  exact iff.mpr h

/-- A selection takes its first branch where its condition is 1. -/
theorem select_of_one {s : Shape} {α : Type} (k : IVec s 1) (a b : s.Idx → α) (i : s.Idx) (h : k i = 1#1) : select k a b i = a i := by
  show Scalar.select (k i) (a i) (b i) = a i
  rw [h]
  rfl

/-- Where the index word is below 64, the row taken is that row of the table. -/
theorem taken_at (x : IVec S16384 32) (emb : FVec Ideal S64x4 .f32) (i : Fin 16384) (p : Fin 4) (h : (x (ix1 i)).toNat < 64) :
    taken x emb (ix2 i p) = emb (ix2 (⟨(x (ix1 i)).toNat, h⟩ : Fin 64) p) := by
  have hin : broadcastInDim S16384x4 ![0] bcast_S16384_S16384x4_0 (inside x) (ix2 i p) = 1#1 := by
    pointwise
    exact inside_at x i h
  unfold taken
  rw [select_of_one _ _ _ _ hin]
  refine Routing.gather_row gather_S64x4_S16384x1_S16384x4_1_0_n_n_0_1_14 rfl rfl rfl rfl rfl emb (words x) i p
    (⟨(x (ix1 i)).toNat, h⟩ : Fin 64) ?_ (by decide)
  exact (words_at x i 0 h).trans (BitVec.eq_of_toNat_eq (by simp))

/-! ## The network over all rows -/

/-- The hidden activation on a whole array. -/
def acts (h : FVec Ideal S16384x10 .f32) : FVec Ideal S16384x10 .f32 :=
  mulf (mulf (broadcastInDim S16384x10 ![] bcast_S_S16384x10 (constant S_ .f32 0x3F000000#32)) h)
    (Host.erfc (mulf (Host.negf h) (broadcastInDim S16384x10 ![] bcast_S_S16384x10 (constant S_ .f32 0x3F3504F3#32))))

/-- The first hidden layer on a whole array. -/
def first (e : FVec Ideal S16384x4 .f32) (w : FVec Ideal S4x10 .f32) (b : FVec Ideal S10 .f32) : FVec Ideal S16384x10 .f32 :=
  addf (Host.dotGeneral dot_S16384x4_S4x10_S16384x10_1_0_0_1_n_n none e w)
    (broadcastInDim S16384x10 ![0, 1] bcast_S1x10_S16384x10_0_1 (broadcastInDim S1x10 ![1] bcast_S10_S1x10_1 b))

/-- The second hidden layer on a whole array. -/
def second (e : FVec Ideal S16384x10 .f32) (w : FVec Ideal S10x10 .f32) (b : FVec Ideal S10 .f32) : FVec Ideal S16384x10 .f32 :=
  addf (Host.dotGeneral dot_S16384x10_S10x10_S16384x10_1_0_0_1_n_n none e w)
    (broadcastInDim S16384x10 ![0, 1] bcast_S1x10_S16384x10_0_1 (broadcastInDim S1x10 ![1] bcast_S10_S1x10_1 b))

/-- The output layer on a whole array. -/
def third (e : FVec Ideal S16384x10 .f32) (w : FVec Ideal S10x4 .f32) (b : FVec Ideal S4 .f32) : FVec Ideal S16384x4 .f32 :=
  addf (Host.dotGeneral dot_S16384x10_S10x4_S16384x4_1_0_0_1_n_n none e w)
    (broadcastInDim S16384x4 ![0, 1] bcast_S1x4_S16384x4_0_1 (broadcastInDim S1x4 ![1] bcast_S4_S1x4_1 b))

theorem acts_at (h : FVec Ideal S16384x10 .f32) (i : Fin 16384) (q : Fin 10) : acts h (ix2 i q) = act (h (ix2 i q)) := by
  pointwise [acts]
  exact act_erfc _

theorem first_at (e : FVec Ideal S16384x4 .f32) (w : FVec Ideal S4x10 .f32) (b : FVec Ideal S10 .f32) (i : Fin 16384) (q : Fin 10) :
    first e w b (ix2 i q) = layer (fun p => e (ix2 i p)) w b q := by
  pointwise [first]
  rfl

theorem second_at (e : FVec Ideal S16384x10 .f32) (w : FVec Ideal S10x10 .f32) (b : FVec Ideal S10 .f32) (i : Fin 16384) (q : Fin 10) :
    second e w b (ix2 i q) = layer (fun p => e (ix2 i p)) w b q := by
  pointwise [second]
  rfl

theorem third_at (e : FVec Ideal S16384x10 .f32) (w : FVec Ideal S10x4 .f32) (b : FVec Ideal S4 .f32) (i : Fin 16384) (q : Fin 4) :
    third e w b (ix2 i q) = layer (fun p => e (ix2 i p)) w b q := by
  pointwise [third]
  rfl

/-- The three layers on a whole array, read at row `i`: the network on row `i`. -/
theorem layers_at (e : FVec Ideal S16384x4 .f32) (w1 : FVec Ideal S4x10 .f32) (b1 : FVec Ideal S10 .f32) (w2 : FVec Ideal S10x10 .f32)
    (b2 : FVec Ideal S10 .f32) (w3 : FVec Ideal S10x4 .f32) (b3 : FVec Ideal S4 .f32) (i : Fin 16384) (j : Fin 4) :
    third (acts (second (acts (first e w1 b1)) w2 b2)) w3 b3 (ix2 i j) = net (fun p => e (ix2 i p)) w1 b1 w2 b2 w3 b3 j := by
  simp only [third_at, acts_at, second_at, first_at, net]

/-! ## The result -/

variable (m : (ℓ : Loc nD τ sig) → Buf (Elt Ideal) ℓ) (c : Dev nD)

/-- The result as the three layers over the rows taken. -/
theorem result_eq : Value.res_main_v26 m c =
    third (acts (second (acts (first (taken (m (c.tc.loc main_arg0)) (m (c.tc.loc main_arg1))) (m (c.tc.loc main_arg2)) (m (c.tc.loc main_arg3))))
      (m (c.tc.loc main_arg4)) (m (c.tc.loc main_arg5)))) (m (c.tc.loc main_arg6)) (m (c.tc.loc main_arg7)) := rfl

/-- The result at `(i, j)` where the index word is below 64: entry `j` of the network on the row it names. -/
theorem result_at (i : Fin 16384) (j : Fin 4) (x : IVec S16384 32) (hx : m (c.tc.loc main_arg0) = x) (h : (x (ix1 i)).toNat < 64) :
    (Value.res_main_v26 m c : FVec Ideal S16384x4 .f32) (ix2 i j)
      = net (fun p => (m (c.tc.loc main_arg1) : FVec Ideal S64x4 .f32) (ix2 (⟨(x (ix1 i)).toNat, h⟩ : Fin 64) p))
          (m (c.tc.loc main_arg2)) (m (c.tc.loc main_arg3)) (m (c.tc.loc main_arg4)) (m (c.tc.loc main_arg5)) (m (c.tc.loc main_arg6))
          (m (c.tc.loc main_arg7)) j := by
  subst hx
  rw [result_eq, layers_at]
  exact congrArg (fun e => net e _ _ _ _ _ _ j) (funext fun p => taken_at _ _ i p h)

end Cert.Proof.Reference

end
-- ==== Proof.Equation.lean ====
/-
  The equation: from memories that agree on the arguments, with every index word in range, the kernel's result and the reference's are equal
  element by element.
-/
module

public import proofs.«01_k».proof.Proof.KernelIdeal.Value
public import proofs.«01_k».proof.Proof.Reference

@[expose] public section

noncomputable section

namespace Cert.Proof.Equation

open Idealize.ShloMosaic Idealize.ShloMosaic.TcCoe

/-- The two results are equal: both hold, at `(i, j)`, entry `j` of the network on the row that index word `i` names. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hX : Cert.Proof.KernelIdeal.InRange (m (Cert.Proof.KernelIdeal.xLoc c)))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (Cert.ReferenceIdeal.Value.res_main_v26 m' c : FVec Ideal Cert.ReferenceIdeal.S16384x4 .f32) = Cert.Proof.KernelIdeal.outOf m c := by
  funext k
  have hk : k = ix2 (k 0) (k 1) := by
    funext a
    match a with
    | ⟨0, _⟩ => rfl
    | ⟨1, _⟩ => rfl
  rw [hk]
  refine (Cert.Proof.Reference.result_at m' c (k 0) (k 1) (m (Cert.Proof.KernelIdeal.xLoc c)) h0 (hX _)).trans ?_
  rw [h1, h2, h3, h4, h5, h6, h7]
  exact (Cert.Proof.KernelIdeal.outOf_at m c (k 0) (k 1) _ rfl (hX _)).symm

end Cert.Proof.Equation

end
-- ==== Proof.lean ====
/-
  The claims, assembled. The kernel, at the printed numbers and over the extended reals, runs from every memory whose index words are in range,
  leaves its arguments and every semaphore as it found them, and holds the gathered rows of the processed table; the reference runs from every
  memory; and the two results are equal.
-/
module

public import proofs.«01_k».proof.Defs
public import proofs.«01_k».proof.Proof.Gen.Pre_in_range
public import proofs.«01_k».proof.Proof.Kernel.Main
public import proofs.«01_k».proof.Proof.Equation
public import Idealize.ShloMosaic.Lib.Quiescent

@[expose] public section

noncomputable section

namespace Cert.Proof

open Idealize.ShloMosaic Idealize.SL.Sem

attribute [local instance] Cert.Pre_in_range.Gen.facts

/-- The kernel's precondition puts its index words in range. -/
theorem kernel_range (m : (ℓ : Loc Cert.Kernel.nD Cert.Kernel.τ Cert.Kernel.sig) → Buf (Elt Bits) ℓ) (h : Cert.Pre_Kernel m)
    (d : Dev Cert.Kernel.nD) : Kernel.InRange (m (Kernel.xLoc d)) :=
  Range.lt_of_pre _ _ _ _ _ _ _ _ (h d)

/-- The same over the extended reals. -/
theorem ideal_range (m : (ℓ : Loc Cert.KernelIdeal.nD Cert.KernelIdeal.τ Cert.KernelIdeal.sig) → Buf (Elt Ideal) ℓ)
    (h : Cert.Pre_KernelIdeal m) (d : Dev Cert.KernelIdeal.nD) : KernelIdeal.InRange (m (KernelIdeal.xLoc d)) :=
  Range.lt_of_pre _ _ _ _ _ _ _ _ (h d)

/-- The kernel as printed runs, keeps its arguments and ends with every semaphore at zero. -/
theorem kernel_runs : Cert.quiescent_Kernel := fun m g h =>
  (θ_run Cert.Kernel.defs _ _).mono (fun _ hr => ⟨fun c => (hr.1 c).2, hr.2⟩) (Kernel.run_main m g (kernel_range m h))

/-- The kernel over the extended reals runs, keeps its arguments and ends with every semaphore at zero. -/
theorem ideal_runs : Cert.quiescent_KernelIdeal := fun m g h =>
  (θ_run Cert.KernelIdeal.defs _ _).mono (fun _ hr => ⟨fun c => (hr.1 c).2, hr.2⟩) (KernelIdeal.run_main m g (ideal_range m h))

/-- The reference runs from every memory, keeps its arguments, and has no semaphore. -/
theorem reference_runs : Cert.quiescent_ReferenceIdeal := fun m g _ =>
  (θ_run Cert.ReferenceIdeal.defs _ _).mono (fun r hr => ⟨fun c => (hr c).2, sem_eq_zero_of_no_sems rfl r.2⟩)
    (Cert.ReferenceIdeal.Value.run m g)

/-- The two results are equal over the extended reals. -/
theorem results_equal : Cert.algebraic_KernelIdeal_ReferenceIdeal := fun m g m' g' h hm =>
  ⟨fun c => KernelIdeal.outOf m c,
    (θ_run Cert.KernelIdeal.defs _ _).mono (fun _ hr => hr.1) (KernelIdeal.run_main m g (ideal_range m h)),
    (θ_run Cert.ReferenceIdeal.defs _ _).mono
      (fun _ hr c => ⟨(hr c).1.trans (by
        obtain ⟨h0, h1, h2, h3, h4, h5, h6, h7⟩ := hm c
        exact Equation.results_agree m m' c (ideal_range m h c) h0 h1 h2 h3 h4 h5 h6 h7), (hr c).2⟩)
      (Cert.ReferenceIdeal.Value.run m' g')⟩

/-- Every claim. -/
theorem claim : Cert.Claim :=
  ⟨Cert.Kernel.Gen.facts, Cert.KernelIdeal.Gen.facts, Cert.ReferenceIdeal.Gen.facts, Cert.Pre_in_range.Gen.facts,
    kernel_runs, ideal_runs, reference_runs, fun m g _ => reference_runs m g trivial, trivial, results_equal⟩

end Cert.Proof

end
